-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_aligned [hPre_finite_and_aligned : Cert.Pre_finite_and_aligned.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_and_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_and_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_and_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_and_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_aligned [hPre_finite_and_aligned : Cert.Pre_finite_and_aligned.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_and_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_and_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_and_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_and_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_aligned [hKernelIdeal : Cert.KernelIdeal.Facts] [hPre_finite_and_aligned : Cert.Pre_finite_and_aligned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_aligned m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_aligned [hReferenceIdeal : Cert.ReferenceIdeal.Facts] [hPre_finite_and_aligned : Cert.Pre_finite_and_aligned.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_aligned m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "inv_temp" .f32 0x41A00000#32 ((268435456 / 13421773 : ℝ) : EReal)
  ∧ IdealRules.named_const.Statement Cert.KernelIdeal.κ "log_half" .f32 0xBF317218#32 ((-(Real.log 2) : ℝ) : EReal)

def preserves_Reference_ReferenceIdeal : Prop :=
  True

def algebraic_KernelIdeal_ReferenceIdeal_pre_finite_and_aligned [hKernelIdeal : Cert.KernelIdeal.Facts] [hReferenceIdeal : Cert.ReferenceIdeal.Facts] [hPre_finite_and_aligned : Cert.Pre_finite_and_aligned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_aligned m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPre_finite_and_aligned : Cert.Pre_finite_and_aligned.Facts),
    quiescent_Kernel (hKernel := hKernel)
    ∧ quiescent_KernelIdeal (hKernelIdeal := hKernelIdeal)
    ∧ quiescent_KernelIdeal_pre_finite_and_aligned (hKernelIdeal := hKernelIdeal) (hPre_finite_and_aligned := hPre_finite_and_aligned)
    ∧ quiescent_ReferenceIdeal (hReferenceIdeal := hReferenceIdeal)
    ∧ quiescent_ReferenceIdeal_pre_finite_and_aligned (hReferenceIdeal := hReferenceIdeal) (hPre_finite_and_aligned := hPre_finite_and_aligned)
    ∧ quiescent_Reference (hReference := hReference)
    ∧ preserves_Kernel_KernelIdeal
    ∧ preserves_Reference_ReferenceIdeal
    ∧ algebraic_KernelIdeal_ReferenceIdeal_pre_finite_and_aligned (hKernelIdeal := hKernelIdeal) (hReferenceIdeal := hReferenceIdeal) (hPre_finite_and_aligned := hPre_finite_and_aligned)
-- ==== Pre_finite_and_aligned.lean ====
abbrev S1024x128 : Shape := ⟨2, ![1024, 128]⟩
abbrev S1024 : Shape := ⟨1, ![1024]⟩
abbrev S1024x24576 : Shape := ⟨2, ![1024, 24576]⟩
abbrev S16384x128 : Shape := ⟨2, ![16384, 128]⟩
abbrev S16384 : Shape := ⟨1, ![16384]⟩
abbrev S_ : Shape := ⟨0, ![]⟩

class Facts : Prop where
  bcast_S_S1024x24576 : S_.BroadcastsInDim S1024x24576 (![] : Fin 0 → Fin S1024x24576.rank)
  bcast_S_S16384x128 : S_.BroadcastsInDim S16384x128 (![] : Fin 0 → Fin S16384x128.rank)
  bcast_S_S16384 : S_.BroadcastsInDim S16384 (![] : Fin 0 → Fin S16384.rank)

variable [Facts]

def fn {F : FTy → Type} [FloatOps F] (main_arg0 : FVec F S1024x128 .f32) (main_arg1 : IVec S1024 32) (main_arg2 : FVec F S1024x24576 .f32) (main_arg3 : FVec F S16384x128 .f32) (main_arg4 : FVec F S16384x128 .f32) (main_arg5 : IVec S16384 32) (main_arg6 : IVec S16384 32) : IVec S1024x24576 1 × IVec S16384x128 1 × IVec S16384x128 1 × IVec S16384 1 × IVec S16384 1 :=
  let main_v0 : IVec S16384 32 := iotaInDim S16384 32 0
  let main_v1 : FVec F S1024x24576 .f32 := Host.absf main_arg2
  let main_cst : FVec F S_ .f32 := constant S_ .f32 0x7F800000#32
  let main_v2 : FVec F S1024x24576 .f32 := broadcastInDim S1024x24576 ![] bcast_S_S1024x24576 main_cst
  let main_v3 : IVec S1024x24576 1 := cmpf .olt main_v1 main_v2
  let main_v4 : FVec F S16384x128 .f32 := Host.absf main_arg3
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_v7 : FVec F S16384x128 .f32 := Host.absf main_arg4
  let main_cst_1 : FVec F S_ .f32 := constant S_ .f32 0x7F800000#32
  let main_v8 : FVec F S16384x128 .f32 := broadcastInDim S16384x128 ![] bcast_S_S16384x128 main_cst_1
  let main_v9 : IVec S16384x128 1 := cmpf .olt main_v7 main_v8
  let main_v10 : IVec S16384 1 := cmpi .eq main_arg5 main_v0
  let main_c : IVec S_ 32 := constantI S_ 32 8192#32
  let main_v11 : IVec S16384 32 := broadcastInDim S16384 ![] bcast_S_S16384 main_c
  let main_v12 : IVec S16384 32 := addi main_v0 main_v11
  let main_v13 : IVec S16384 1 := cmpi .eq main_arg6 main_v12
  (main_v3, main_v6, main_v9, main_v10, main_v13)
-- ==== Kernel.lean ====
abbrev S1024x128 : Shape := ⟨2, ![1024, 128]⟩
abbrev S1024 : Shape := ⟨1, ![1024]⟩
abbrev S1024x24576 : Shape := ⟨2, ![1024, 24576]⟩
abbrev S16384x128 : Shape := ⟨2, ![16384, 128]⟩
abbrev S16384 : Shape := ⟨1, ![16384]⟩
abbrev S1024x1 : Shape := ⟨2, ![1024, 1]⟩
abbrev S2048x128 : Shape := ⟨2, ![2048, 128]⟩
abbrev S1024x2048 : Shape := ⟨2, ![1024, 2048]⟩
abbrev S1x1 : Shape := ⟨2, ![1, 1]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 17
  | .vmem => 18
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S1024x24576, .f32⟩
  | .hbm, ⟨3, _⟩ => ⟨S16384x128, .f32⟩
  | .hbm, ⟨4, _⟩ => ⟨S16384x128, .f32⟩
  | .hbm, ⟨5, _⟩ => ⟨S16384, .i32⟩
  | .hbm, ⟨6, _⟩ => ⟨S16384, .i32⟩
  | .hbm, ⟨7, _⟩ => ⟨S1024x1, .f32⟩
  | .hbm, ⟨8, _⟩ => ⟨S1024x1, .f32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S1024x1, .f32⟩
  | .local _ .vmem, ⟨6, _⟩ => ⟨S1024x1, .f32⟩
  | .local _ .vmem, ⟨7, _⟩ => ⟨S1024x128, .f32⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1, .f32⟩
  | .local _ .vmem, ⟨15, _⟩ => ⟨S1024x1, .f32⟩
  | .local _ .vmem, ⟨16, _⟩ => ⟨S1x1, .f32⟩
  | .local _ .vmem, ⟨17, _⟩ => ⟨S1x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_12 : BitVec 32 := 0#32
  let v28 : BitVec 1 := Scalar.cmpi .ne v27 c0_i32_12
  v28

def k0_cond2 (i : grid0.Coords) : BitVec 1 :=
  let arg0 : BitVec 32 := BitVec.ofNat 32 (i 0).val
  let c0_i32_13 : BitVec 32 := 0#32
  let v29 : BitVec 1 := Scalar.cmpi .ne arg0 c0_i32_13
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![24], ![false]⟩

def k1_cond1 (i : grid1.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_8 : BitVec 32 := 0#32
  let v19 : BitVec 1 := Scalar.cmpi .ne v18 c0_i32_8
  v19

def k1_cond2 (i : grid1.Coords) : BitVec 1 :=
  let arg0 : BitVec 32 := BitVec.ofNat 32 (i 0).val
  let c8_i32 : BitVec 32 := 8#32
  let v20 : BitVec 1 := Scalar.cmpi .slt arg0 c8_i32
  let v21 : BitVec 32 := Scalar.extui v20
  let c0_i32_9 : BitVec 32 := 0#32
  let v22 : BitVec 1 := Scalar.cmpi .ne v21 c0_i32_9
  v22

def k1_cond3 (i : grid1.Coords) : BitVec 1 :=
  let arg0 : BitVec 32 := BitVec.ofNat 32 (i 0).val
  let c8_i32_10 : BitVec 32 := 8#32
  let v23 : BitVec 1 := Scalar.cmpi .sge arg0 c8_i32_10
  let c16_i32 : BitVec 32 := 16#32
  let v24 : BitVec 1 := Scalar.cmpi .slt arg0 c16_i32
  let v25 : BitVec 1 := Scalar.andi v23 v24
  let v26 : BitVec 32 := Scalar.extui v25
  let c0_i32_11 : BitVec 32 := 0#32
  let v27 : BitVec 1 := Scalar.cmpi .ne v26 c0_i32_11
  v27

def k1_cond4 (i : grid1.Coords) : BitVec 1 :=
  let arg0 : BitVec 32 := BitVec.ofNat 32 (i 0).val
  let c16_i32_12 : BitVec 32 := 16#32
  let v28 : BitVec 1 := Scalar.cmpi .sge arg0 c16_i32_12
  let v29 : BitVec 32 := Scalar.extui v28
  let c0_i32_13 : BitVec 32 := 0#32
  let v30 : BitVec 1 := Scalar.cmpi .ne v29 c0_i32_13
  v30

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== KernelIdeal.lean ====
variable {F : FTy → Type} [FloatOps F] [Named F]
def κ : String → Option EReal := fun
  | "inv_temp" => some ((268435456 / 13421773 : ℝ) : EReal)
  | "log_half" => some ((-(Real.log 2) : ℝ) : EReal)
  | _ => none
-- ==== Reference.lean ====
abbrev S1024x128 : Shape := ⟨2, ![1024, 128]⟩
abbrev S1024 : Shape := ⟨1, ![1024]⟩
abbrev S1024x24576 : Shape := ⟨2, ![1024, 24576]⟩
abbrev S16384x128 : Shape := ⟨2, ![16384, 128]⟩
abbrev S16384 : Shape := ⟨1, ![16384]⟩
abbrev S_ : Shape := ⟨0, ![]⟩
abbrev S1024x1 : Shape := ⟨2, ![1024, 1]⟩
abbrev S128x16384 : Shape := ⟨2, ![128, 16384]⟩
abbrev S1024x16384 : Shape := ⟨2, ![1024, 16384]⟩
abbrev S16384x1 : Shape := ⟨2, ![16384, 1]⟩
abbrev S1 : Shape := ⟨1, ![1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S1024x128, .f32⟩
  | 1 => ⟨S1024, .i32⟩
  | 2 => ⟨S1024x24576, .f32⟩
  | 3 => ⟨S16384x128, .f32⟩
  | 4 => ⟨S16384x128, .f32⟩
  | 5 => ⟨S16384, .i32⟩
  | 6 => ⟨S16384, .i32⟩
  | 7 => ⟨S1024x128, .f32⟩
  | 8 => ⟨S_, .f32⟩
  | 9 => ⟨S1024, .f32⟩
  | 10 => ⟨S1024x1, .f32⟩
  | 11 => ⟨S1024x1, .f32⟩
  | 12 => ⟨S_, .f32⟩
  | 13 => ⟨S1024x1, .f32⟩
  | 14 => ⟨S1024x1, .f32⟩
  | 15 => ⟨S1024x128, .f32⟩
  | 16 => ⟨S1024x128, .f32⟩
  | 17 => ⟨S128x16384, .f32⟩
  | 18 => ⟨S1024x16384, .f32⟩
  | 19 => ⟨S_, .f32⟩
  | 20 => ⟨S1024x16384, .f32⟩
  | 21 => ⟨S1024x16384, .f32⟩
  | 22 => ⟨S128x16384, .f32⟩
  | 23 => ⟨S1024x16384, .f32⟩
  | 24 => ⟨S_, .f32⟩
  | 25 => ⟨S1024x16384, .f32⟩
  | 26 => ⟨S1024x16384, .f32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S1, .i32⟩
  | 36 => ⟨S_, .i32⟩
  | 37 => ⟨S16384x1, .i32⟩
  | 38 => ⟨S16384x1, .i1⟩
  | 39 => ⟨S1x1, .i32⟩
  | 40 => ⟨S16384x1, .i32⟩
  | 41 => ⟨S16384x1, .i1⟩
  | 42 => ⟨S16384x1, .i1⟩
  | 43 => ⟨S_, .i1⟩
  | 44 => ⟨S16384, .i1⟩
  | 45 => ⟨S1024x16384, .f32⟩
  | 46 => ⟨S1024x16384, .i1⟩
  | 47 => ⟨S_, .f32⟩
  | 48 => ⟨S1024x16384, .f32⟩
  | 49 => ⟨S1024x16384, .f32⟩
  | 50 => ⟨S_, .f32⟩
  | 51 => ⟨S1024, .f32⟩
  | 52 => ⟨S_, .f32⟩
  | 53 => ⟨S1024, .f32⟩
  | 54 => ⟨S1024, .f32⟩
  | 55 => ⟨S1024x1, .f32⟩
  | 56 => ⟨S1024x16384, .f32⟩
  | 57 => ⟨S1024x16384, .f32⟩
  | 58 => ⟨S1024x16384, .f32⟩
  | 59 => ⟨S_, .f32⟩
  | 60 => ⟨S1024, .f32⟩
  | 61 => ⟨S1024x1, .f32⟩
  | 62 => ⟨S1024x1, .f32⟩
  | 63 => ⟨S1024x16384, .f32⟩
  | 64 => ⟨S1024x16384, .f32⟩
  | 65 => ⟨S1024x16384, .f32⟩
  | 66 => ⟨S_, .f32⟩
  | 67 => ⟨S1024, .f32⟩
  | 68 => ⟨S1024, .f32⟩
  | 69 => ⟨S_, .f32⟩
  | 70 => ⟨S_, .f32⟩
  | 71 => ⟨S_, .f32⟩
  | 72 => ⟨S_, .f32⟩
  | 73 => ⟨S_, .f32⟩
  | 74 => ⟨S1024, .f32⟩
  | 75 => ⟨S_, .f32⟩
  | 76 => ⟨S1024, .f32⟩
  | 77 => ⟨S1024, .f32⟩
  | 78 => ⟨S1024x1, .f32⟩
  | 79 => ⟨S1024x16384, .f32⟩
  | 80 => ⟨S1024x16384, .f32⟩
  | 81 => ⟨S1024x16384, .f32⟩
  | 82 => ⟨S_, .f32⟩
  | 83 => ⟨S1024, .f32⟩
  | 84 => ⟨S1024x1, .f32⟩
  | 85 => ⟨S1024x16384, .f32⟩
  | 86 => ⟨S1024x16384, .f32⟩
  | 87 => ⟨S_, .f32⟩
  | 88 => ⟨S1024, .f32⟩
  | 89 => ⟨S_, .f32⟩
  | 90 => ⟨S1024, .f32⟩
  | 91 => ⟨S1024, .f32⟩
  | 92 => ⟨S1024x1, .f32⟩
  | 93 => ⟨S1024x16384, .f32⟩
  | 94 => ⟨S1024x16384, .f32⟩
  | 95 => ⟨S1024x16384, .f32⟩
  | 96 => ⟨S_, .f32⟩
  | 97 => ⟨S1024, .f32⟩
  | 98 => ⟨S1024x1, .f32⟩
  | 99 => ⟨S1024x16384, .f32⟩
  | 100 => ⟨S1024x16384, .f32⟩
  | 101 => ⟨S_, .f32⟩
  | 102 => ⟨S1024x24576, .f32⟩
  | 103 => ⟨S_, .i32⟩
  | 104 => ⟨S16384, .i32⟩
  | 105 => ⟨S16384, .i1⟩
  | 106 => ⟨S_, .i32⟩
  | 107 => ⟨S16384, .i32⟩
  | 108 => ⟨S16384, .i32⟩
  | 109 => ⟨S16384, .i32⟩
  | 110 => ⟨S16384x1, .i32⟩
  | 111 => ⟨S1024x24576, .f32⟩
  | 112 => ⟨S_, .f32⟩
  | 113 => ⟨S1024x24576, .f32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S1024x24576, .f32⟩
  | 123 => ⟨S_, .f32⟩
  | 124 => ⟨S1024x24576, .f32⟩
  | 125 => ⟨S1024x24576, .f32⟩
  | 126 => ⟨S_, .f32⟩
  | 127 => ⟨S1024x24576, .f32⟩
  | _ => ⟨S1024x128, .f32⟩

abbrev hbmTy0_1 (i : Nat) : BufTy := match i % 128 with
  | 0 => ⟨S1024x24576, .f32⟩
  | 1 => ⟨S1024x24576, .f32⟩
  | 2 => ⟨S1024x24576, .f32⟩
  | 3 => ⟨S1024x24576, .f32⟩
  | 4 => ⟨S_, .f32⟩
  | 5 => ⟨S1024, .f32⟩
  | 6 => ⟨S1024, .f32⟩
  | 7 => ⟨S_, .f32⟩
  | 8 => ⟨S_, .f32⟩
  | 9 => ⟨S_, .f32⟩
  | 10 => ⟨S_, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v13 : Ref sig .tc := ⟨.hbm, 49, rfl⟩
abbrev main_call2_cst : Ref sig .tc := ⟨.hbm, 50, rfl⟩
abbrev main_call2_v0 : Ref sig .tc := ⟨.hbm, 51, rfl⟩
abbrev main_call2_cst_0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_cst_1 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_v14 : Ref sig .tc := ⟨.hbm, 64, rfl⟩
abbrev main_v15 : Ref sig .tc := ⟨.hbm, 65, rfl⟩
abbrev main_cst_2 : Ref sig .tc := ⟨.hbm, 66, rfl⟩
abbrev main_v16 : Ref sig .tc := ⟨.hbm, 67, rfl⟩
abbrev main_v17 : Ref sig .tc := ⟨.hbm, 68, rfl⟩
abbrev main_cst_3 : Ref sig .tc := ⟨.hbm, 69, rfl⟩
abbrev main_v18 : Ref sig .tc := ⟨.hbm, 70, rfl⟩
abbrev main_cst_4 : Ref sig .tc := ⟨.hbm, 71, rfl⟩
abbrev main_v19 : Ref sig .tc := ⟨.hbm, 72, rfl⟩
abbrev main_cst_5 : Ref sig .tc := ⟨.hbm, 73, rfl⟩
abbrev main_v20 : Ref sig .tc := ⟨.hbm, 74, rfl⟩
abbrev main_cst_6 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_cst_7 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_cst_8 : Ref sig .tc := ⟨.hbm, 87, rfl⟩
abbrev main_v31 : Ref sig .tc := ⟨.hbm, 88, rfl⟩
abbrev main_cst_9 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_cst_10 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_cst_11 : Ref sig .tc := ⟨.hbm, 101, rfl⟩
abbrev main_v42 : Ref sig .tc := ⟨.hbm, 102, rfl⟩
abbrev main_c : Ref sig .tc := ⟨.hbm, 103, rfl⟩
abbrev main_v43 : Ref sig .tc := ⟨.hbm, 104, rfl⟩
abbrev main_v44 : Ref sig .tc := ⟨.hbm, 105, rfl⟩
abbrev main_c_12 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_cst_13 : Ref sig .tc := ⟨.hbm, 112, rfl⟩
abbrev main_v50 : Ref sig .tc := ⟨.hbm, 113, rfl⟩
abbrev main_c_14 : Ref sig .tc := ⟨.hbm, 114, rfl⟩
abbrev main_v51 : Ref sig .tc := ⟨.hbm, 115, rfl⟩
abbrev main_v52 : Ref sig .tc := ⟨.hbm, 116, rfl⟩
abbrev main_c_15 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_cst_16 : Ref sig .tc := ⟨.hbm, 123, rfl⟩
abbrev main_v58 : Ref sig .tc := ⟨.hbm, 124, rfl⟩
abbrev main_v59 : Ref sig .tc := ⟨.hbm, 125, rfl⟩
abbrev main_cst_17 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_cst_18 : Ref sig .tc := ⟨.hbm, 132, rfl⟩
abbrev main_v65 : Ref sig .tc := ⟨.hbm, 133, rfl⟩
abbrev main_v66 : Ref sig .tc := ⟨.hbm, 134, rfl⟩
abbrev main_cst_19 : Ref sig .tc := ⟨.hbm, 135, rfl⟩
abbrev main_v67 : Ref sig .tc := ⟨.hbm, 136, rfl⟩
abbrev main_cst_20 : Ref sig .tc := ⟨.hbm, 137, rfl⟩
abbrev main_v68 : Ref sig .tc := ⟨.hbm, 138, rfl⟩

abbrev nD : Nat := 1
abbrev τ : Topo := Topo.v7x

variable {F : FTy → Type} [FloatOps F]
-- ==== Proof.Staging.lean ====
/- Loads and stores that take a whole staging buffer, read back: what a body that only moves whole blocks needs. -/
module

public import Idealize.ShloMosaic.Lib.Pipeline.FrameBody
public import Idealize.ShloMosaic.Lib.Pipeline.Value

@[expose] public section

noncomputable section

namespace Cert.Staging

open Idealize.ShloMosaic

variable {Val : EltTy → Type} {sig : RefSig} {κ : Kind} {sp : Space} {S : Shape} {e : EltTy}

/-- The offset of a whole two-axis block. -/
theorem zero2 : (![0, 0] : Fin 2 → ℕ) = fun _ => 0 := by
  funext a; fin_cases a <;> rfl

/-- A store of a whole block, the last one, is what is read back. -/
theorem read_stored [∀ e, Nonempty (Val e)] (v : View sig κ sp S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ fun y => ⟨_, List.mem_cons_self, View.mem_set_unit_zero h inb y⟩,
    View.canon_cons_unit_zero h inb w L]

/-- A load of a whole block reads the buffer's contents. -/
theorem load_unread {M : Memref sig κ sp S e} (hM : M.IsWhole) (x : S.Idx → Val e) {off : Fin S.rank → ℕ}
    (h : off = fun _ => 0) (inb : ∀ a, off a + S.size a ≤ S.size a) :
    M.view.readAt Val (Rect.unit off S.size inb).toLoadRect (hM.unread x) = x := by
  rw [View.readAt_eq_ld, hM.read_unread, View.ld_unit_zero h]

end Cert.Staging

end
-- ==== Proof.KernelIdeal.Sumexp.lean ====
/- The first pallas call (the sums of exponentials): what its body leaves in the staging buffers at each
   grid point, in closed form, and the proof data of its region over any contents at the region's entry. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Staging
public import Idealize.ShloMosaic.Lib.Pipeline.FrameBody
public import Idealize.ShloMosaic.Lib.Pipeline.TableIdle
public import Idealize.ShloMosaic.Lib.Pipeline.RegionArraysS
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The logic's model for this program. -/
abbrev 𝕄 (F : FTy → Type) := MT nD τ sig Unit (Elt F) ℕ (UR sig nD τ) ℕ

set_option maxHeartbeats 1000000 in
/-- The body at the first grid point: both accumulators are overwritten by the block's sums. -/
theorem sumexp_first (c : Dev nD) (i : grid0.Coords) (arg1 : Memref sig .tc .vmem S1024x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x1 .f32) (harg5 : arg5.IsWhole)
    (hc0 : k0_cond1 i = 1#1) (hc1 : ¬k0_cond2 i = 1#1)
    (x0 : Vec F S1024x128 .f32) (x1 : Vec F S2048x128 .f32) (x2 : Vec F S2048x128 .f32)
    (E : Set ℕ) (K : PUnit → sProp (𝕄 F)) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 x1) ∗ owns (c : Thread nD τ) arg5 fullShare (k0_pay3 x0 x2)) -∗ K ⟨⟩))
          ⊢ wp frame (wpE (defs₀ (F := F)) Variants.none c none) E (cc0__sumexp_kernel i arg1 harg1 arg2 harg2 arg3 harg3 arg4 harg4 arg5 harg5) K := by
    simp only [cc0__sumexp_kernel_eq_skeleton]; unfold cc0__sumexp_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      refine (Cert.Staging.read_stored _ _ Cert.Staging.zero2 _ _ _).trans ?_
      rw [Cert.Staging.load_unread harg1 x0 Cert.Staging.zero2, Cert.Staging.load_unread harg2 x1 Cert.Staging.zero2]
    · iexists _; isplitr; swap; · iexact H4
      ipureintro
      refine (Cert.Staging.read_stored _ _ Cert.Staging.zero2 _ _ _).trans ?_
      rw [Cert.Staging.load_unread harg1 x0 Cert.Staging.zero2, Cert.Staging.load_unread harg3 x2 Cert.Staging.zero2]

set_option maxHeartbeats 1000000 in
/-- The body at a later grid point: both accumulators gain the block's sums. -/
theorem sumexp_next (c : Dev nD) (i : grid0.Coords) (arg1 : Memref sig .tc .vmem S1024x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1024x1 .f32) (harg4 : arg4.IsWhole) (arg5 : Memref sig .tc .vmem S1024x1 .f32) (harg5 : arg5.IsWhole)
    (hc0 : ¬k0_cond1 i = 1#1) (hc1 : k0_cond2 i = 1#1)
    (x0 : Vec F S1024x128 .f32) (x1 : Vec F S2048x128 .f32) (x2 : Vec F S2048x128 .f32) (z0 z1 : Vec F S1024x1 .f32)
    (E : Set ℕ) (K : PUnit → sProp (𝕄 F)) :
        iprop(owns (c : Thread nD τ) arg1 fullShare x0 ∗ owns (c : Thread nD τ) arg2 fullShare x1 ∗ owns (c : Thread nD τ) arg3 fullShare x2 ∗ owns (c : Thread nD τ) arg4 fullShare z0 ∗ owns (c : Thread nD τ) arg5 fullShare z1
            ∗ (iprop(owns (c : Thread nD τ) arg1 fullShare x0 ∗ owns (c : Thread nD τ) arg2 fullShare x1 ∗ owns (c : Thread nD τ) arg3 fullShare x2 ∗ owns (c : Thread nD τ) arg4 fullShare (k0_pay4 x0 x1 z0) ∗ owns (c : Thread nD τ) arg5 fullShare (k0_pay5 x0 x2 z1)) -∗ K ⟨⟩))
          ⊢ wp frame (wpE (defs₀ (F := F)) Variants.none c none) E (cc0__sumexp_kernel i arg1 harg1 arg2 harg2 arg3 harg3 arg4 harg4 arg5 harg5) K := by
    simp only [cc0__sumexp_kernel_eq_skeleton]; unfold cc0__sumexp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      refine (Cert.Staging.read_stored _ _ Cert.Staging.zero2 _ _ _).trans ?_
      rw [Cert.Staging.load_unread harg1 x0 Cert.Staging.zero2, Cert.Staging.load_unread harg2 x1 Cert.Staging.zero2,
        Cert.Staging.load_unread harg4 z0 Cert.Staging.zero2]
    · iexists _; isplitr; swap; · iexact H4
      ipureintro
      refine (Cert.Staging.read_stored _ _ Cert.Staging.zero2 _ _ _).trans ?_
      rw [Cert.Staging.load_unread harg1 x0 Cert.Staging.zero2, Cert.Staging.load_unread harg3 x2 Cert.Staging.zero2,
        Cert.Staging.load_unread harg5 z1 Cert.Staging.zero2]

/-! ## The branch conditions in closed form -/

/-- The first branch is taken at the first point only. -/
theorem sumexp_cond1 : ∀ t : Fin cfg0.N, k0_cond1 (grid0.coords t) = 1#1 ↔ t.val = 0 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp
   : ∀ t : Fin grid0.N, k0_cond1 (grid0.coords t) = 1#1 ↔ t.val = 0)

/-- The second branch is taken at every later point. -/
theorem sumexp_cond2 : ∀ t : Fin cfg0.N, k0_cond2 (grid0.coords t) = 1#1 ↔ 1 ≤ t.val :=
  (fun t => by
    have ht : t.val < 8 := Nat.lt_of_lt_of_eq t.isLt N_0
    have e0 : (grid0.coords t 0).val = t.val / 1 % 8 := Pipeline.Grid.coords_val t 0 (by decide) rfl
    simp only [k0_cond2, e0]
    word_cmp
   : ∀ t : Fin grid0.N, k0_cond2 (grid0.coords t) = 1#1 ↔ 1 ≤ t.val)

/-- No window is idle at any point. -/
theorem sumexp_live (w : Fin cfg0.W) (t : Fin cfg0.N) : cfg0.idle w (grid0.coords t) = false := by
  revert w t; decide +kernel

/-- An output's buffer holds something of the body's from the second point on. -/
def sumexpFresh : ℕ → Bool
  | 0 => true
  | n + 1 => (0x80 : ℕ).testBit n

theorem sumexpFresh_step3 : ∀ t : Fin cfg0.N,
    sumexpFresh (t.val + 1) = ((cfg0.win 3).flush t || (cfg0.idle 3 (cfg0.grid.coords t) && sumexpFresh t.val)) := by decide +kernel
theorem sumexpFresh_step4 : ∀ t : Fin cfg0.N,
    sumexpFresh (t.val + 1) = ((cfg0.win 4).flush t || (cfg0.idle 4 (cfg0.grid.coords t) && sumexpFresh t.val)) := by decide +kernel
theorem sumexp_notFresh3 : ∀ t : Fin cfg0.N, 1 ≤ t.val → cfg0.fresh 3 t.val = false := by
  intro t; rw [Pipeline.Cfg.fresh_tab cfg0 3 sumexpFresh rfl sumexpFresh_step3 t.val (Nat.le_of_lt t.isLt)]; revert t; decide +kernel
theorem sumexp_notFresh4 : ∀ t : Fin cfg0.N, 1 ≤ t.val → cfg0.fresh 4 t.val = false := by
  intro t; rw [Pipeline.Cfg.fresh_tab cfg0 4 sumexpFresh rfl sumexpFresh_step4 t.val (Nat.le_of_lt t.isLt)]; revert t; decide +kernel

/-! ## The proof data, over the contents at the region's entry -/

section Data

variable (V : Dev nD → Valuation τ sig (Elt F))

/-- Window `w`'s block at point `t`, read off its array as the region finds it. -/
def sumexpBlk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The two accumulators after the body at point `n`: the first block's sums, then one block's sums more at each point. -/
def sumexpAcc (c : Dev nD) : (n : ℕ) → n < cfg0.N → Vec F S1024x1 .f32 × Vec F S1024x1 .f32
  | 0, h => (k0_pay2 (sumexpBlk V c 0 ⟨0, h⟩) (sumexpBlk V c 1 ⟨0, h⟩), k0_pay3 (sumexpBlk V c 0 ⟨0, h⟩) (sumexpBlk V c 2 ⟨0, h⟩))
  | n + 1, h =>
    (k0_pay4 (sumexpBlk V c 0 ⟨n + 1, h⟩) (sumexpBlk V c 1 ⟨n + 1, h⟩) (sumexpAcc c n (Nat.lt_of_succ_lt h)).1,
      k0_pay5 (sumexpBlk V c 0 ⟨n + 1, h⟩) (sumexpBlk V c 2 ⟨n + 1, h⟩) (sumexpAcc c n (Nat.lt_of_succ_lt h)).2)

theorem sumexpAcc_first (c : Dev nD) (t : Fin cfg0.N) (h : t.val = 0) :
    sumexpAcc V c t.val t.isLt = (k0_pay2 (sumexpBlk V c 0 t) (sumexpBlk V c 1 t), k0_pay3 (sumexpBlk V c 0 t) (sumexpBlk V c 2 t)) := by
  obtain ⟨n, hn⟩ := t; cases h; rfl

theorem sumexpAcc_next (c : Dev nD) (t : Fin cfg0.N) (h : 1 ≤ t.val) :
    sumexpAcc V c t.val t.isLt = (k0_pay4 (sumexpBlk V c 0 t) (sumexpBlk V c 1 t) (sumexpAcc V c (t.val - 1) (Nat.lt_of_le_of_lt (Nat.sub_le _ _) t.isLt)).1,
      k0_pay5 (sumexpBlk V c 0 t) (sumexpBlk V c 2 t) (sumexpAcc V c (t.val - 1) (Nat.lt_of_le_of_lt (Nat.sub_le _ _) t.isLt)).2) := by
  obtain ⟨n, hn⟩ := t
  cases n with
  | zero => exact absurd h (by show ¬ 1 ≤ 0; omega)
  | succ n => rfl

/-- The proof data of the first call: its arrays as found, each input's buffer at its block, the accumulators. -/
def sumexpDat (c : Dev nD) : Dat τ (Elt F) Unit ℕ (UR sig nD τ) ℕ cfg0 c where
  A w := V c (Proc.devRef .tc (Pipeline.arrRef spec0 w))
  after w t := match w with
    | ⟨0, _⟩ => sumexpBlk V c 0 t
    | ⟨1, _⟩ => sumexpBlk V c 1 t
    | ⟨2, _⟩ => sumexpBlk V c 2 t
    | ⟨3, _⟩ => (sumexpAcc V c t.val t.isLt).1
    | ⟨4, _⟩ => (sumexpAcc V c t.val t.isLt).2
  Φ _ := Pipeline.scopedRest spec0 c
  q _ := fullShare
  owed _ := 0

theorem sumexpDat_A (c : Dev nD) (w : Fin cfg0.W) : (sumexpDat V c).A w = V c (Proc.devRef .tc (Pipeline.arrRef spec0 w)) := by
  dsimp only [sumexpDat]

theorem sumexp_after0 (c : Dev nD) (t : Fin cfg0.N) : (sumexpDat V c).after 0 t = sumexpBlk V c 0 t := by dsimp only [sumexpDat]
theorem sumexp_after1 (c : Dev nD) (t : Fin cfg0.N) : (sumexpDat V c).after 1 t = sumexpBlk V c 1 t := by dsimp only [sumexpDat]
theorem sumexp_after2 (c : Dev nD) (t : Fin cfg0.N) : (sumexpDat V c).after 2 t = sumexpBlk V c 2 t := by dsimp only [sumexpDat]
theorem sumexp_after3 (c : Dev nD) (t : Fin cfg0.N) : (sumexpDat V c).after 3 t = (sumexpAcc V c t.val t.isLt).1 := by dsimp only [sumexpDat]
theorem sumexp_after4 (c : Dev nD) (t : Fin cfg0.N) : (sumexpDat V c).after 4 t = (sumexpAcc V c t.val t.isLt).2 := by dsimp only [sumexpDat]

/-- The inputs' buffers hold their blocks whenever the body runs. -/
theorem sumexp_before0 (c : Dev nD) (t : Fin cfg0.N) (d) : (sumexpDat V c).before 0 t d = sumexpBlk V c 0 t :=
  ((sumexpDat V c).before_in_eq_fetched 0 rfl (fun _ => rfl) (fun _ _ _ => rfl) (fun t => by rw [sumexp_after0]; unfold Dat.blockOf sumexpBlk; rw [sumexpDat_A]; try rfl) t d).trans
    (by unfold Dat.fetched Dat.blockOf sumexpBlk; rw [sumexpDat_A]; try rfl)
theorem sumexp_before1 (c : Dev nD) (t : Fin cfg0.N) (d) : (sumexpDat V c).before 1 t d = sumexpBlk V c 1 t :=
  ((sumexpDat V c).before_in_eq_fetched 1 rfl (fun _ => rfl) (fun _ _ _ => rfl) (fun t => by rw [sumexp_after1]; unfold Dat.blockOf sumexpBlk; rw [sumexpDat_A]; try rfl) t d).trans
    (by unfold Dat.fetched Dat.blockOf sumexpBlk; rw [sumexpDat_A]; try rfl)
theorem sumexp_before2 (c : Dev nD) (t : Fin cfg0.N) (d) : (sumexpDat V c).before 2 t d = sumexpBlk V c 2 t :=
  ((sumexpDat V c).before_in_eq_fetched 2 rfl (fun _ => rfl) (fun _ _ _ => rfl) (fun t => by rw [sumexp_after2]; unfold Dat.blockOf sumexpBlk; rw [sumexpDat_A]; try rfl) t d).trans
    (by unfold Dat.fetched Dat.blockOf sumexpBlk; rw [sumexpDat_A]; try rfl)

/-- At a later point an accumulator's buffer holds what the point before left. -/
theorem sumexp_before3 (c : Dev nD) (t : Fin cfg0.N) (h : 1 ≤ t.val) (d) :
    (sumexpDat V c).before 3 t d = (sumexpAcc V c (t.val - 1) (Nat.lt_of_le_of_lt (Nat.sub_le _ _) t.isLt)).1 := by
  rw [Dat.before_out_traj _ 3 rfl (fun _ _ => rfl) (fun t _ hi => by rw [sumexp_live 3 t] at hi; exact absurd hi Bool.false_ne_true) t.val t rfl d,
    if_neg (by rw [sumexp_notFresh3 t h]; exact Bool.false_ne_true)]
  dsimp only [sumexpDat]
theorem sumexp_before4 (c : Dev nD) (t : Fin cfg0.N) (h : 1 ≤ t.val) (d) :
    (sumexpDat V c).before 4 t d = (sumexpAcc V c (t.val - 1) (Nat.lt_of_le_of_lt (Nat.sub_le _ _) t.isLt)).2 := by
  rw [Dat.before_out_traj _ 4 rfl (fun _ _ => rfl) (fun t _ hi => by rw [sumexp_live 4 t] at hi; exact absurd hi Bool.false_ne_true) t.val t rfl d,
    if_neg (by rw [sumexp_notFresh4 t h]; exact Bool.false_ne_true)]
  dsimp only [sumexpDat]

/-- A window's staging buffer at point `t`. -/
abbrev sumexpM0 (t : Fin cfg0.N) : Memref sig .tc .vmem S1024x128 .f32 := win0_0.stage (cfg0.slots t 0)
abbrev sumexpM1 (t : Fin cfg0.N) : Memref sig .tc .vmem S2048x128 .f32 := win0_1.stage (cfg0.slots t 1)
abbrev sumexpM2 (t : Fin cfg0.N) : Memref sig .tc .vmem S2048x128 .f32 := win0_2.stage (cfg0.slots t 2)
abbrev sumexpM3 (t : Fin cfg0.N) : Memref sig .tc .vmem S1024x1 .f32 := win0_3.stage (cfg0.slots t 3)
abbrev sumexpM4 (t : Fin cfg0.N) : Memref sig .tc .vmem S1024x1 .f32 := win0_4.stage (cfg0.slots t 4)

theorem sumexp_leaves (c : Dev nD) (w : Fin cfg0.W) (t : Fin cfg0.N) :
    (sumexpDat V c).leavesExact w t = owns (c : Thread nD τ) ((cfg0.win w).stage (cfg0.slots t w)) fullShare ((sumexpDat V c).after w t) := by
  unfold Dat.leavesExact; rw [sumexp_live w t]

set_option maxHeartbeats 800000 in
/-- The body at any point, from the staging buffers as it finds them to the proof data's contents. -/
theorem sumexp_sound (c : Dev nD) (t : Fin cfg0.N) :
    iprop((sumexpDat V c).Φ t.castSucc ∗ (sumexpDat V c).owesAt () t.castSucc
      ∗ (∃ d, owns (c : Thread nD τ) (sumexpM0 t) fullShare ((sumexpDat V c).before 0 t d))
      ∗ (∃ d, owns (c : Thread nD τ) (sumexpM1 t) fullShare ((sumexpDat V c).before 1 t d))
      ∗ (∃ d, owns (c : Thread nD τ) (sumexpM2 t) fullShare ((sumexpDat V c).before 2 t d))
      ∗ (∃ d, owns (c : Thread nD τ) (sumexpM3 t) fullShare ((sumexpDat V c).before 3 t d))
      ∗ (∃ d, owns (c : Thread nD τ) (sumexpM4 t) fullShare ((sumexpDat V c).before 4 t d)))
    ⊢ wp frame (wpE (defs₀ (F := F)) Variants.none c none) Set.univ (bodyAt0 t) (fun _ =>
      iprop((sumexpDat V c).Φ t.succ ∗ (sumexpDat V c).owesAt () t.succ
        ∗ (sumexpDat V c).leavesExact 0 t ∗ (sumexpDat V c).leavesExact 1 t ∗ (sumexpDat V c).leavesExact 2 t
        ∗ (sumexpDat V c).leavesExact 3 t ∗ (sumexpDat V c).leavesExact 4 t)) := by
  unfold bodyAt0
  simp only [sumexp_before0, sumexp_before1, sumexp_before2]
  rw [show (sumexpDat V c).Φ t.succ = (sumexpDat V c).Φ t.castSucc from rfl,
    show (sumexpDat V c).owesAt () t.succ = (sumexpDat V c).owesAt () t.castSucc from rfl]
  rw [sumexp_leaves, sumexp_leaves, sumexp_leaves, sumexp_leaves, sumexp_leaves,
    sumexp_after0, sumexp_after1, sumexp_after2, sumexp_after3, sumexp_after4]
  by_cases h1 : 1 ≤ t.val
  · rw [sumexpAcc_next V c t h1]
    simp only [sumexp_before3 V c t h1, sumexp_before4 V c t h1]
    iintro ⟨HΦ, Ho, ⟨%d0, H0⟩, ⟨%d1, H1⟩, ⟨%d2, H2⟩, ⟨%d3, H3⟩, ⟨%d4, H4⟩⟩
    iapply (sumexp_next c (grid0.coords t) _ _ _ _ _ _ _ _ _ _ (fun h => by have := (sumexp_cond1 t).mp h; omega) ((sumexp_cond2 t).mpr h1) (sumexpBlk V c 0 t) (sumexpBlk V c 1 t) (sumexpBlk V c 2 t) _ _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have h0 : t.val = 0 := by omega
    rw [sumexpAcc_first V c t h0]
    iintro ⟨HΦ, Ho, ⟨%d0, H0⟩, ⟨%d1, H1⟩, ⟨%d2, H2⟩, ⟨%d3, H3⟩, ⟨%d4, H4⟩⟩
    iapply (sumexp_first c (grid0.coords t) _ _ _ _ _ _ _ _ _ _ ((sumexp_cond1 t).mpr h0) (fun h => h1 ((sumexp_cond2 t).mp h)) (sumexpBlk V c 0 t) (sumexpBlk V c 1 t) (sumexpBlk V c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row at point `t`'s slots is the body as it is spelt there. -/
theorem sumexp_row (t : Fin cfg0.N) :
    defs₀ (F := F) .tc cfg0.body (cfg0.bodyArgs t (cfg0.slots t)) = bodyAt0 t := by
  unfold defs₀; rw [Defs.onTc_tc]

/-- The library's body obligation at every point. -/
theorem sumexp_obligation (c : Dev nD) : BodyObligation (sumexpDat V c) (defs₀ (F := F)) Variants.none () Set.univ := fun t => by
  rw [bigSep_W0, bigSep_W0, sumexp_row]
  exact triple_restated (sumexp_sound V c t) rfl .rfl fun _ => .rfl

end Data

end Cert.KernelIdeal.Own

end
-- ==== Proof.KernelIdeal.Loss.lean ====
/- The second pallas call (the two losses): what its body leaves in the staging buffers at each grid point, in
   closed form, and the proof data of its region over any contents at the region's entry. -/
module

public import proofs.«01_k».proof.Proof.KernelIdeal.Sumexp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 2000000 in
/-- The body at the first grid point: both sums start from zero and gain the first block of columns. -/
theorem loss_first (c : Dev nD) (i : grid1.Coords) (arg1 : Memref sig .tc .vmem S1024x128 .f32) (harg1 : arg1.IsWhole) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1x1 .f32) (harg8 : arg8.IsWhole)
    (hc0 : k1_cond1 i = 1#1) (hc1 : k1_cond2 i = 1#1) (hc2 : ¬k1_cond3 i = 1#1) (hc3 : ¬k1_cond4 i = 1#1)
    (x0 : Vec F S1024x128 .f32) (x1 : Vec F S1024x1024 .f32) (x2 : Vec F S1024x128 .f32) (x3 : Vec F S1024x128 .f32) (x4 : Vec F S1024x1 .f32) (x5 : Vec F S1024x1 .f32)
    (E : Set ℕ) (K : PUnit → sProp (𝕄 F)) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay7 x0 x1 x4 x2 (k1_pay4 (F := F))) ∗ owns (c : Thread nD τ) arg8 fullShare (k1_pay8 x0 x1 x4 x2 (k1_pay5 (F := F)))) -∗ K ⟨⟩))
          ⊢ wp frame (wpE (defs₀ (F := F)) Variants.none c none) E (cc1__loss_kernel i arg1 harg1 arg2 harg2 arg3 harg3 arg4 harg4 arg5 harg5 arg6 harg6 arg7 harg7 arg8 harg8) K := by
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (Cert.Staging.read_stored _ _ Cert.Staging.zero2 _ _ _).trans ?_
      simp only [Cert.Staging.load_unread harg1 x0 Cert.Staging.zero2, Cert.Staging.load_unread harg2 x1 Cert.Staging.zero2, Cert.Staging.load_unread harg3 x2 Cert.Staging.zero2, Cert.Staging.load_unread harg4 x3 Cert.Staging.zero2, Cert.Staging.load_unread harg5 x4 Cert.Staging.zero2, Cert.Staging.load_unread harg6 x5 Cert.Staging.zero2]
      exact congrArg (k1_pay7 x0 x1 x4 x2) (View.readCov_unit_zero (S := S1x1) arg7.view Cert.Staging.zero2 _ _)
    · iexists _; isplitr; swap; · iexact H7
      ipureintro
      refine (Cert.Staging.read_stored _ _ Cert.Staging.zero2 _ _ _).trans ?_
      simp only [Cert.Staging.load_unread harg1 x0 Cert.Staging.zero2, Cert.Staging.load_unread harg2 x1 Cert.Staging.zero2, Cert.Staging.load_unread harg3 x2 Cert.Staging.zero2, Cert.Staging.load_unread harg4 x3 Cert.Staging.zero2, Cert.Staging.load_unread harg5 x4 Cert.Staging.zero2, Cert.Staging.load_unread harg6 x5 Cert.Staging.zero2]
      exact congrArg (k1_pay8 x0 x1 x4 x2) (View.readCov_unit_zero (S := S1x1) arg8.view Cert.Staging.zero2 _ _)

set_option maxHeartbeats 2000000 in
/-- The body at a point whose columns only the first modality reaches. -/
theorem loss_rgb (c : Dev nD) (i : grid1.Coords) (arg1 : Memref sig .tc .vmem S1024x128 .f32) (harg1 : arg1.IsWhole) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1x1 .f32) (harg8 : arg8.IsWhole)
    (hc0 : ¬k1_cond1 i = 1#1) (hc1 : k1_cond2 i = 1#1) (hc2 : ¬k1_cond3 i = 1#1) (hc3 : ¬k1_cond4 i = 1#1)
    (x0 : Vec F S1024x128 .f32) (x1 : Vec F S1024x1024 .f32) (x2 : Vec F S1024x128 .f32) (x3 : Vec F S1024x128 .f32) (x4 : Vec F S1024x1 .f32) (x5 : Vec F S1024x1 .f32) (y0 y1 : Vec F S1x1 .f32)
    (E : Set ℕ) (K : PUnit → sProp (𝕄 F)) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare y1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay7 x0 x1 x4 x2 y0) ∗ owns (c : Thread nD τ) arg8 fullShare (k1_pay8 x0 x1 x4 x2 y1)) -∗ K ⟨⟩))
          ⊢ wp frame (wpE (defs₀ (F := F)) Variants.none c none) E (cc1__loss_kernel i arg1 harg1 arg2 harg2 arg3 harg3 arg4 harg4 arg5 harg5 arg6 harg6 arg7 harg7 arg8 harg8) K := by
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (Cert.Staging.read_stored _ _ Cert.Staging.zero2 _ _ _).trans ?_
      simp only [Cert.Staging.load_unread harg1 x0 Cert.Staging.zero2, Cert.Staging.load_unread harg2 x1 Cert.Staging.zero2, Cert.Staging.load_unread harg3 x2 Cert.Staging.zero2, Cert.Staging.load_unread harg4 x3 Cert.Staging.zero2, Cert.Staging.load_unread harg5 x4 Cert.Staging.zero2, Cert.Staging.load_unread harg6 x5 Cert.Staging.zero2, Cert.Staging.load_unread harg7 y0 Cert.Staging.zero2, Cert.Staging.load_unread harg8 y1 Cert.Staging.zero2]
    · iexists _; isplitr; swap; · iexact H7
      ipureintro
      refine (Cert.Staging.read_stored _ _ Cert.Staging.zero2 _ _ _).trans ?_
      simp only [Cert.Staging.load_unread harg1 x0 Cert.Staging.zero2, Cert.Staging.load_unread harg2 x1 Cert.Staging.zero2, Cert.Staging.load_unread harg3 x2 Cert.Staging.zero2, Cert.Staging.load_unread harg4 x3 Cert.Staging.zero2, Cert.Staging.load_unread harg5 x4 Cert.Staging.zero2, Cert.Staging.load_unread harg6 x5 Cert.Staging.zero2, Cert.Staging.load_unread harg7 y0 Cert.Staging.zero2, Cert.Staging.load_unread harg8 y1 Cert.Staging.zero2]

set_option maxHeartbeats 2000000 in
/-- The body at a point whose columns both modalities reach. -/
theorem loss_both (c : Dev nD) (i : grid1.Coords) (arg1 : Memref sig .tc .vmem S1024x128 .f32) (harg1 : arg1.IsWhole) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1x1 .f32) (harg8 : arg8.IsWhole)
    (hc0 : ¬k1_cond1 i = 1#1) (hc1 : ¬k1_cond2 i = 1#1) (hc2 : k1_cond3 i = 1#1) (hc3 : ¬k1_cond4 i = 1#1)
    (x0 : Vec F S1024x128 .f32) (x1 : Vec F S1024x1024 .f32) (x2 : Vec F S1024x128 .f32) (x3 : Vec F S1024x128 .f32) (x4 : Vec F S1024x1 .f32) (x5 : Vec F S1024x1 .f32) (y0 y1 : Vec F S1x1 .f32)
    (E : Set ℕ) (K : PUnit → sProp (𝕄 F)) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare y1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k1_pay11 (k1_pay1 x0) x1 (k1_pay2 x4) x2 y0) ∗ owns (c : Thread nD τ) arg8 fullShare (k1_pay12 (k1_pay1 x0) x1 (k1_pay2 x4) (k1_pay3 x5) x2 x3 y1)) -∗ K ⟨⟩))
          ⊢ wp frame (wpE (defs₀ (F := F)) Variants.none c none) E (cc1__loss_kernel i arg1 harg1 arg2 harg2 arg3 harg3 arg4 harg4 arg5 harg5 arg6 harg6 arg7 harg7 arg8 harg8) K := by
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (Cert.Staging.read_stored _ _ Cert.Staging.zero2 _ _ _).trans ?_
      simp only [Cert.Staging.load_unread harg1 x0 Cert.Staging.zero2, Cert.Staging.load_unread harg2 x1 Cert.Staging.zero2, Cert.Staging.load_unread harg3 x2 Cert.Staging.zero2, Cert.Staging.load_unread harg4 x3 Cert.Staging.zero2, Cert.Staging.load_unread harg5 x4 Cert.Staging.zero2, Cert.Staging.load_unread harg6 x5 Cert.Staging.zero2, Cert.Staging.load_unread harg7 y0 Cert.Staging.zero2, Cert.Staging.load_unread harg8 y1 Cert.Staging.zero2]
    · iexists _; isplitr; swap; · iexact H7
      ipureintro
      refine (Cert.Staging.read_stored _ _ Cert.Staging.zero2 _ _ _).trans ?_
      simp only [Cert.Staging.load_unread harg1 x0 Cert.Staging.zero2, Cert.Staging.load_unread harg2 x1 Cert.Staging.zero2, Cert.Staging.load_unread harg3 x2 Cert.Staging.zero2, Cert.Staging.load_unread harg4 x3 Cert.Staging.zero2, Cert.Staging.load_unread harg5 x4 Cert.Staging.zero2, Cert.Staging.load_unread harg6 x5 Cert.Staging.zero2, Cert.Staging.load_unread harg7 y0 Cert.Staging.zero2, Cert.Staging.load_unread harg8 y1 Cert.Staging.zero2]

set_option maxHeartbeats 2000000 in
/-- The body at a point whose columns only the second modality reaches: the first sum stays. -/
theorem loss_ir (c : Dev nD) (i : grid1.Coords) (arg1 : Memref sig .tc .vmem S1024x128 .f32) (harg1 : arg1.IsWhole) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1x1 .f32) (harg8 : arg8.IsWhole)
    (hc0 : ¬k1_cond1 i = 1#1) (hc1 : ¬k1_cond2 i = 1#1) (hc2 : ¬k1_cond3 i = 1#1) (hc3 : k1_cond4 i = 1#1)
    (x0 : Vec F S1024x128 .f32) (x1 : Vec F S1024x1024 .f32) (x2 : Vec F S1024x128 .f32) (x3 : Vec F S1024x128 .f32) (x4 : Vec F S1024x1 .f32) (x5 : Vec F S1024x1 .f32) (y0 y1 : Vec F S1x1 .f32)
    (E : Set ℕ) (K : PUnit → sProp (𝕄 F)) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare y1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare (k1_pay9 x0 x1 x5 x3 y1)) -∗ K ⟨⟩))
          ⊢ wp frame (wpE (defs₀ (F := F)) Variants.none c none) E (cc1__loss_kernel i arg1 harg1 arg2 harg2 arg3 harg3 arg4 harg4 arg5 harg5 arg6 harg6 arg7 harg7 arg8 harg8) K := by
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    · iexists _; isplitr; swap; · iexact H7
      ipureintro
      refine (Cert.Staging.read_stored _ _ Cert.Staging.zero2 _ _ _).trans ?_
      simp only [Cert.Staging.load_unread harg1 x0 Cert.Staging.zero2, Cert.Staging.load_unread harg2 x1 Cert.Staging.zero2, Cert.Staging.load_unread harg3 x2 Cert.Staging.zero2, Cert.Staging.load_unread harg4 x3 Cert.Staging.zero2, Cert.Staging.load_unread harg5 x4 Cert.Staging.zero2, Cert.Staging.load_unread harg6 x5 Cert.Staging.zero2, Cert.Staging.load_unread harg7 y0 Cert.Staging.zero2, Cert.Staging.load_unread harg8 y1 Cert.Staging.zero2]

/-! ## The branch conditions in closed form -/

/-- The sums are set to zero at the first point only. -/
theorem loss_cond1 : ∀ t : Fin cfg1.N, k1_cond1 (grid1.coords t) = 1#1 ↔ t.val = 0 :=
  (fun t => by
    have ht : t.val < 24 := Nat.lt_of_lt_of_eq t.isLt N_1
    have e0 : (grid1.coords t 0).val = t.val / 1 % 24 := Pipeline.Grid.coords_val t 0 (by decide) rfl
    simp only [k1_cond1, e0]
    word_cmp
   : ∀ t : Fin grid1.N, k1_cond1 (grid1.coords t) = 1#1 ↔ t.val = 0)

/-- The first eight points hold the columns of the first modality alone. -/
theorem loss_cond2 : ∀ t : Fin cfg1.N, k1_cond2 (grid1.coords t) = 1#1 ↔ t.val < 8 :=
  (by decide +kernel : ∀ t : Fin grid1.N, k1_cond2 (grid1.coords t) = 1#1 ↔ t.val < 8)

/-- The next eight hold the columns of both. -/
theorem loss_cond3 : ∀ t : Fin cfg1.N, k1_cond3 (grid1.coords t) = 1#1 ↔ 8 ≤ t.val ∧ t.val < 16 :=
  (by decide +kernel : ∀ t : Fin grid1.N, k1_cond3 (grid1.coords t) = 1#1 ↔ 8 ≤ t.val ∧ t.val < 16)

/-- The last eight hold the columns of the second alone. -/
theorem loss_cond4 : ∀ t : Fin cfg1.N, k1_cond4 (grid1.coords t) = 1#1 ↔ 16 ≤ t.val :=
  (by decide +kernel : ∀ t : Fin grid1.N, k1_cond4 (grid1.coords t) = 1#1 ↔ 16 ≤ t.val)

/-- No window but the first sum's is ever idle, and that one only from point 16 on. -/
theorem loss_live (w : Fin cfg1.W) (hw : w ≠ 6) (t : Fin cfg1.N) : cfg1.idle w (grid1.coords t) = false := by
  revert w t; decide +kernel
theorem loss_live6 : ∀ t : Fin cfg1.N, t.val < 16 → cfg1.idle 6 (grid1.coords t) = false := by decide +kernel
theorem loss_idle6 : ∀ t : Fin cfg1.N, 16 ≤ t.val → cfg1.idle 6 (grid1.coords t) = true := by decide +kernel

/-- An output's buffer holds something of the body's from the second point on. -/
def lossFresh : ℕ → Bool
  | 0 => true
  | n + 1 => (0x800000 : ℕ).testBit n

theorem lossFresh_step6 : ∀ t : Fin cfg1.N,
    lossFresh (t.val + 1) = ((cfg1.win 6).flush t || (cfg1.idle 6 (cfg1.grid.coords t) && lossFresh t.val)) := by decide +kernel
theorem loss_notFresh6 : ∀ t : Fin cfg1.N, 1 ≤ t.val → cfg1.fresh 6 t.val = false := by
  intro t; rw [Pipeline.Cfg.fresh_tab cfg1 6 lossFresh rfl lossFresh_step6 t.val (Nat.le_of_lt t.isLt)]; revert t; decide +kernel
theorem lossFresh_step7 : ∀ t : Fin cfg1.N,
    lossFresh (t.val + 1) = ((cfg1.win 7).flush t || (cfg1.idle 7 (cfg1.grid.coords t) && lossFresh t.val)) := by decide +kernel
theorem loss_notFresh7 : ∀ t : Fin cfg1.N, 1 ≤ t.val → cfg1.fresh 7 t.val = false := by
  intro t; rw [Pipeline.Cfg.fresh_tab cfg1 7 lossFresh rfl lossFresh_step7 t.val (Nat.le_of_lt t.isLt)]; revert t; decide +kernel

/-! ## The proof data, over the contents at the region's entry -/

section Data

variable (V : Dev nD → Valuation τ sig (Elt F))

/-- Window `w`'s block at point `t`, read off its array as the region finds it. -/
def lossBlk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The two sums after the body at a point, from the sums before it. -/
def lossStep (c : Dev nD) (t : Fin cfg1.N) (y : Vec F S1x1 .f32 × Vec F S1x1 .f32) : Vec F S1x1 .f32 × Vec F S1x1 .f32 :=
  if t.val < 8 then
    (k1_pay7 (lossBlk V c 0 t) (lossBlk V c 1 t) (lossBlk V c 4 t) (lossBlk V c 2 t) y.1,
      k1_pay8 (lossBlk V c 0 t) (lossBlk V c 1 t) (lossBlk V c 4 t) (lossBlk V c 2 t) y.2)
  else if t.val < 16 then
    (k1_pay11 (k1_pay1 (lossBlk V c 0 t)) (lossBlk V c 1 t) (k1_pay2 (lossBlk V c 4 t)) (lossBlk V c 2 t) y.1,
      k1_pay12 (k1_pay1 (lossBlk V c 0 t)) (lossBlk V c 1 t) (k1_pay2 (lossBlk V c 4 t)) (k1_pay3 (lossBlk V c 5 t)) (lossBlk V c 2 t) (lossBlk V c 3 t) y.2)
  else (y.1, k1_pay9 (lossBlk V c 0 t) (lossBlk V c 1 t) (lossBlk V c 5 t) (lossBlk V c 3 t) y.2)

/-- The two sums after the body at point `n`: from zero, one step per point. -/
def lossAcc (c : Dev nD) : (n : ℕ) → n < cfg1.N → Vec F S1x1 .f32 × Vec F S1x1 .f32
  | 0, h => lossStep V c ⟨0, h⟩ (k1_pay4 (F := F), k1_pay5 (F := F))
  | n + 1, h => lossStep V c ⟨n + 1, h⟩ (lossAcc c n (Nat.lt_of_succ_lt h))

theorem lossAcc_first (c : Dev nD) (t : Fin cfg1.N) (h : t.val = 0) :
    lossAcc V c t.val t.isLt = lossStep V c t (k1_pay4 (F := F), k1_pay5 (F := F)) := by
  obtain ⟨n, hn⟩ := t; cases h; rfl

theorem lossAcc_next (c : Dev nD) (t : Fin cfg1.N) (h : 1 ≤ t.val) :
    lossAcc V c t.val t.isLt = lossStep V c t (lossAcc V c (t.val - 1) (Nat.lt_of_le_of_lt (Nat.sub_le _ _) t.isLt)) := by
  obtain ⟨n, hn⟩ := t
  cases n with
  | zero => exact absurd h (by show ¬ 1 ≤ 0; omega)
  | succ n => rfl

/-- The proof data of the second call: its arrays as found, each input's buffer at its block, the two sums. -/
def lossDat (c : Dev nD) : Dat τ (Elt F) Unit ℕ (UR sig nD τ) ℕ cfg1 c where
  A w := V c (Proc.devRef .tc (Pipeline.arrRef spec1 w))
  after w t := match w with
    | ⟨0, _⟩ => lossBlk V c 0 t
    | ⟨1, _⟩ => lossBlk V c 1 t
    | ⟨2, _⟩ => lossBlk V c 2 t
    | ⟨3, _⟩ => lossBlk V c 3 t
    | ⟨4, _⟩ => lossBlk V c 4 t
    | ⟨5, _⟩ => lossBlk V c 5 t
    | ⟨6, _⟩ => (lossAcc V c t.val t.isLt).1
    | ⟨7, _⟩ => (lossAcc V c t.val t.isLt).2
  Φ _ := Pipeline.scopedRest spec1 c
  q _ := fullShare
  owed _ := 0

theorem lossDat_A (c : Dev nD) (w : Fin cfg1.W) : (lossDat V c).A w = V c (Proc.devRef .tc (Pipeline.arrRef spec1 w)) := by
  dsimp only [lossDat]

theorem loss_after0 (c : Dev nD) (t : Fin cfg1.N) : (lossDat V c).after 0 t = lossBlk V c 0 t := by dsimp only [lossDat]
theorem loss_after1 (c : Dev nD) (t : Fin cfg1.N) : (lossDat V c).after 1 t = lossBlk V c 1 t := by dsimp only [lossDat]
theorem loss_after2 (c : Dev nD) (t : Fin cfg1.N) : (lossDat V c).after 2 t = lossBlk V c 2 t := by dsimp only [lossDat]
theorem loss_after3 (c : Dev nD) (t : Fin cfg1.N) : (lossDat V c).after 3 t = lossBlk V c 3 t := by dsimp only [lossDat]
theorem loss_after4 (c : Dev nD) (t : Fin cfg1.N) : (lossDat V c).after 4 t = lossBlk V c 4 t := by dsimp only [lossDat]
theorem loss_after5 (c : Dev nD) (t : Fin cfg1.N) : (lossDat V c).after 5 t = lossBlk V c 5 t := by dsimp only [lossDat]
theorem loss_after6 (c : Dev nD) (t : Fin cfg1.N) : (lossDat V c).after 6 t = (lossAcc V c t.val t.isLt).1 := by dsimp only [lossDat]
theorem loss_after7 (c : Dev nD) (t : Fin cfg1.N) : (lossDat V c).after 7 t = (lossAcc V c t.val t.isLt).2 := by dsimp only [lossDat]

/-! The inputs' buffers hold their blocks whenever the body runs. -/

theorem loss_before0 (c : Dev nD) (t : Fin cfg1.N) (d) : (lossDat V c).before 0 t d = lossBlk V c 0 t :=
  ((lossDat V c).before_in_eq_fetched 0 rfl (fun _ => rfl) (fun _ _ _ => rfl) (fun t => by rw [loss_after0]; unfold Dat.blockOf lossBlk; rw [lossDat_A]; try rfl) t d).trans
    (by unfold Dat.fetched Dat.blockOf lossBlk; rw [lossDat_A]; try rfl)
theorem loss_before1 (c : Dev nD) (t : Fin cfg1.N) (d) : (lossDat V c).before 1 t d = lossBlk V c 1 t :=
  ((lossDat V c).before_in_eq_fetched 1 rfl (fun _ => rfl) (fun _ _ _ => rfl) (fun t => by rw [loss_after1]; unfold Dat.blockOf lossBlk; rw [lossDat_A]; try rfl) t d).trans
    (by unfold Dat.fetched Dat.blockOf lossBlk; rw [lossDat_A]; try rfl)
theorem loss_before2 (c : Dev nD) (t : Fin cfg1.N) (d) : (lossDat V c).before 2 t d = lossBlk V c 2 t :=
  ((lossDat V c).before_in_eq_fetched 2 rfl (fun _ => rfl) (fun _ _ _ => rfl) (fun t => by rw [loss_after2]; unfold Dat.blockOf lossBlk; rw [lossDat_A]; try rfl) t d).trans
    (by unfold Dat.fetched Dat.blockOf lossBlk; rw [lossDat_A]; try rfl)
theorem loss_before3 (c : Dev nD) (t : Fin cfg1.N) (d) : (lossDat V c).before 3 t d = lossBlk V c 3 t :=
  ((lossDat V c).before_in_eq_fetched 3 rfl (fun _ => rfl) (fun _ _ _ => rfl) (fun t => by rw [loss_after3]; unfold Dat.blockOf lossBlk; rw [lossDat_A]; try rfl) t d).trans
    (by unfold Dat.fetched Dat.blockOf lossBlk; rw [lossDat_A]; try rfl)
theorem loss_before4 (c : Dev nD) (t : Fin cfg1.N) (d) : (lossDat V c).before 4 t d = lossBlk V c 4 t :=
  ((lossDat V c).before_in_eq_fetched 4 rfl (fun _ => rfl) (fun _ _ _ => rfl) (fun t => by rw [loss_after4]; unfold Dat.blockOf lossBlk; rw [lossDat_A]; try rfl) t d).trans
    (by unfold Dat.fetched Dat.blockOf lossBlk; rw [lossDat_A]; try rfl)
theorem loss_before5 (c : Dev nD) (t : Fin cfg1.N) (d) : (lossDat V c).before 5 t d = lossBlk V c 5 t :=
  ((lossDat V c).before_in_eq_fetched 5 rfl (fun _ => rfl) (fun _ _ _ => rfl) (fun t => by rw [loss_after5]; unfold Dat.blockOf lossBlk; rw [lossDat_A]; try rfl) t d).trans
    (by unfold Dat.fetched Dat.blockOf lossBlk; rw [lossDat_A]; try rfl)

/-- The first sum is carried through the points that leave it alone. -/
theorem loss_carry (c : Dev nD) (t : Fin cfg1.N) (h : 16 ≤ t.val) :
    (lossAcc V c t.val t.isLt).1 = (lossAcc V c (t.val - 1) (Nat.lt_of_le_of_lt (Nat.sub_le _ _) t.isLt)).1 := by
  rw [lossAcc_next V c t (by omega)]
  unfold lossStep
  rw [if_neg (by omega), if_neg (by omega)]

/-- At a later point a sum's buffer holds what the point before left. -/
theorem loss_before6 (c : Dev nD) (t : Fin cfg1.N) (h : 1 ≤ t.val) (d) :
    (lossDat V c).before 6 t d = (lossAcc V c (t.val - 1) (Nat.lt_of_le_of_lt (Nat.sub_le _ _) t.isLt)).1 := by
  rw [Dat.before_out_traj _ 6 rfl (fun _ _ => rfl) (fun t _ hi _ => by
      rw [loss_after6, loss_after6]
      by_cases ht : t.val < 16
      · exact absurd ((loss_live6 t ht).symm.trans hi) Bool.false_ne_true
      · exact loss_carry V c t (by omega)) t.val t rfl d,
    if_neg (by rw [loss_notFresh6 t h]; exact Bool.false_ne_true)]
  dsimp only [lossDat]
theorem loss_before7 (c : Dev nD) (t : Fin cfg1.N) (h : 1 ≤ t.val) (d) :
    (lossDat V c).before 7 t d = (lossAcc V c (t.val - 1) (Nat.lt_of_le_of_lt (Nat.sub_le _ _) t.isLt)).2 := by
  rw [Dat.before_out_traj _ 7 rfl (fun _ _ => rfl) (fun t _ hi => absurd ((loss_live 7 (by decide) t).symm.trans hi) Bool.false_ne_true) t.val t rfl d,
    if_neg (by rw [loss_notFresh7 t h]; exact Bool.false_ne_true)]
  dsimp only [lossDat]

/-! A window's staging buffer at point `t`. -/

abbrev lossM0 (t : Fin cfg1.N) : Memref sig .tc .vmem S1024x128 .f32 := win1_0.stage (cfg1.slots t 0)
abbrev lossM1 (t : Fin cfg1.N) : Memref sig .tc .vmem S1024x1024 .f32 := win1_1.stage (cfg1.slots t 1)
abbrev lossM2 (t : Fin cfg1.N) : Memref sig .tc .vmem S1024x128 .f32 := win1_2.stage (cfg1.slots t 2)
abbrev lossM3 (t : Fin cfg1.N) : Memref sig .tc .vmem S1024x128 .f32 := win1_3.stage (cfg1.slots t 3)
abbrev lossM4 (t : Fin cfg1.N) : Memref sig .tc .vmem S1024x1 .f32 := win1_4.stage (cfg1.slots t 4)
abbrev lossM5 (t : Fin cfg1.N) : Memref sig .tc .vmem S1024x1 .f32 := win1_5.stage (cfg1.slots t 5)
abbrev lossM6 (t : Fin cfg1.N) : Memref sig .tc .vmem S1x1 .f32 := win1_6.stage (cfg1.slots t 6)
abbrev lossM7 (t : Fin cfg1.N) : Memref sig .tc .vmem S1x1 .f32 := win1_7.stage (cfg1.slots t 7)

theorem loss_leaves (c : Dev nD) (w : Fin cfg1.W) (hw : w ≠ 6) (t : Fin cfg1.N) :
    (lossDat V c).leavesExact w t = owns (c : Thread nD τ) ((cfg1.win w).stage (cfg1.slots t w)) fullShare ((lossDat V c).after w t) := by
  unfold Dat.leavesExact; rw [loss_live w hw t]

/-- The first sum's buffer, at its contents after the point, is what the point is to leave — where the body stores
    into it and where it does not. -/
theorem loss_leaves6 (c : Dev nD) (t : Fin cfg1.N) :
    (owns (c : Thread nD τ) (lossM6 t) fullShare ((lossAcc V c t.val t.isLt).1) : sProp (𝕄 F)) ⊢ (lossDat V c).leavesExact 6 t := by
  by_cases ht : t.val < 16
  · unfold Dat.leavesExact; rw [loss_live6 t ht, loss_after6]
  · by_cases hf : (cfg1.win 6).flush t = true
    · unfold Dat.leavesExact; rw [loss_idle6 t (by omega), hf, loss_after6]
    · rw [Dat.leavesExact_idle _ 6 t (loss_idle6 t (by omega)) (Bool.not_eq_true _ ▸ hf)]
      simp only [loss_before6 V c t (by omega)]
      rw [loss_carry V c t (by omega)]
      iintro H
      iexists (fun _ => Classical.arbitrary _)
      iexact H

set_option maxHeartbeats 1600000 in
/-- The body at any point, from the staging buffers as it finds them to the proof data's contents. -/
theorem loss_sound (c : Dev nD) (t : Fin cfg1.N) :
    iprop((lossDat V c).Φ t.castSucc ∗ (lossDat V c).owesAt () t.castSucc
      ∗ (∃ d, owns (c : Thread nD τ) (lossM0 t) fullShare ((lossDat V c).before 0 t d))
      ∗ (∃ d, owns (c : Thread nD τ) (lossM1 t) fullShare ((lossDat V c).before 1 t d))
      ∗ (∃ d, owns (c : Thread nD τ) (lossM2 t) fullShare ((lossDat V c).before 2 t d))
      ∗ (∃ d, owns (c : Thread nD τ) (lossM3 t) fullShare ((lossDat V c).before 3 t d))
      ∗ (∃ d, owns (c : Thread nD τ) (lossM4 t) fullShare ((lossDat V c).before 4 t d))
      ∗ (∃ d, owns (c : Thread nD τ) (lossM5 t) fullShare ((lossDat V c).before 5 t d))
      ∗ (∃ d, owns (c : Thread nD τ) (lossM6 t) fullShare ((lossDat V c).before 6 t d))
      ∗ (∃ d, owns (c : Thread nD τ) (lossM7 t) fullShare ((lossDat V c).before 7 t d)))
    ⊢ wp frame (wpE (defs₀ (F := F)) Variants.none c none) Set.univ (bodyAt1 t) (fun _ =>
      iprop((lossDat V c).Φ t.succ ∗ (lossDat V c).owesAt () t.succ
        ∗ (lossDat V c).leavesExact 0 t ∗ (lossDat V c).leavesExact 1 t ∗ (lossDat V c).leavesExact 2 t ∗ (lossDat V c).leavesExact 3 t ∗ (lossDat V c).leavesExact 4 t ∗ (lossDat V c).leavesExact 5 t ∗ (lossDat V c).leavesExact 6 t ∗ (lossDat V c).leavesExact 7 t)) := by
  unfold bodyAt1
  simp only [loss_before0, loss_before1, loss_before2, loss_before3, loss_before4, loss_before5]
  rw [show (lossDat V c).Φ t.succ = (lossDat V c).Φ t.castSucc from rfl,
    show (lossDat V c).owesAt () t.succ = (lossDat V c).owesAt () t.castSucc from rfl]
  rw [loss_leaves V c 0 (by decide), loss_leaves V c 1 (by decide), loss_leaves V c 2 (by decide), loss_leaves V c 3 (by decide), loss_leaves V c 4 (by decide), loss_leaves V c 5 (by decide), loss_leaves V c 7 (by decide),
    loss_after0, loss_after1, loss_after2, loss_after3, loss_after4, loss_after5, loss_after7]
  by_cases h1 : 1 ≤ t.val
  · simp only [loss_before6 V c t h1, loss_before7 V c t h1]
    have hacc := lossAcc_next V c t h1
    unfold lossStep at hacc
    by_cases h8 : t.val < 8
    · rw [if_pos h8] at hacc
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (loss_rgb c (grid1.coords t) _ _ _ _ _ _ _ _ _ _ _ _ _ _ _ _ (fun h => by have := (loss_cond1 t).mp h; omega) ((loss_cond2 t).mpr (by omega)) (fun h => by have := (loss_cond3 t).mp h; omega) (fun h => by have := (loss_cond4 t).mp h; omega) (lossBlk V c 0 t) (lossBlk V c 1 t) (lossBlk V c 2 t) (lossBlk V c 3 t) (lossBlk V c 4 t) (lossBlk V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iapply (loss_leaves6 V c t); rw [hacc]; iexact H6
      rw [hacc]; iexact H7
    · by_cases h16 : t.val < 16
      · rw [if_neg h8, if_pos h16] at hacc
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (loss_both c (grid1.coords t) _ _ _ _ _ _ _ _ _ _ _ _ _ _ _ _ (fun h => by have := (loss_cond1 t).mp h; omega) (fun h => by have := (loss_cond2 t).mp h; omega) ((loss_cond3 t).mpr (by omega)) (fun h => by have := (loss_cond4 t).mp h; omega) (lossBlk V c 0 t) (lossBlk V c 1 t) (lossBlk V c 2 t) (lossBlk V c 3 t) (lossBlk V c 4 t) (lossBlk V c 5 t) _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iintro ⟨H0, H1, H2, H3, H4, H5, H6, H7⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iapply (loss_leaves6 V c t); rw [hacc]; iexact H6
        rw [hacc]; iexact H7
      · rw [if_neg h8, if_neg h16] at hacc
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (loss_ir c (grid1.coords t) _ _ _ _ _ _ _ _ _ _ _ _ _ _ _ _ (fun h => by have := (loss_cond1 t).mp h; omega) (fun h => by have := (loss_cond2 t).mp h; omega) (fun h => by have := (loss_cond3 t).mp h; omega) ((loss_cond4 t).mpr (by omega)) (lossBlk V c 0 t) (lossBlk V c 1 t) (lossBlk V c 2 t) (lossBlk V c 3 t) (lossBlk V c 4 t) (lossBlk V c 5 t) _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iintro ⟨H0, H1, H2, H3, H4, H5, H6, H7⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iapply (loss_leaves6 V c t); rw [hacc]; iexact H6
        rw [hacc]; iexact H7
  · have h0 : t.val = 0 := by omega
    have hacc := lossAcc_first V c t h0
    unfold lossStep at hacc
    rw [if_pos (by omega)] at hacc
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (loss_first c (grid1.coords t) _ _ _ _ _ _ _ _ _ _ _ _ _ _ _ _ ((loss_cond1 t).mpr (by omega)) ((loss_cond2 t).mpr (by omega)) (fun h => by have := (loss_cond3 t).mp h; omega) (fun h => by have := (loss_cond4 t).mp h; omega) (lossBlk V c 0 t) (lossBlk V c 1 t) (lossBlk V c 2 t) (lossBlk V c 3 t) (lossBlk V c 4 t) (lossBlk V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (loss_leaves6 V c t); rw [hacc]; iexact H6
    rw [hacc]; iexact H7

/-- The body table's row at point `t`'s slots is the body as it is spelt there. -/
theorem loss_row (t : Fin cfg1.N) :
    defs₀ (F := F) .tc cfg1.body (cfg1.bodyArgs t (cfg1.slots t)) = bodyAt1 t := by
  unfold defs₀; rw [Defs.onTc_tc]

/-- The library's body obligation at every point. -/
theorem loss_obligation (c : Dev nD) : BodyObligation (lossDat V c) (defs₀ (F := F)) Variants.none () Set.univ := fun t => by
  rw [bigSep_W1, bigSep_W1, loss_row]
  exact triple_restated (loss_sound V c t) rfl .rfl fun _ => .rfl

end Data

end Cert.KernelIdeal.Own

end
-- ==== Proof.KernelIdeal.Run.lean ====
/- The run of the whole program: the two calls' regions and the host operations after them, chained over the
   contents of the unscoped buffers, and what every final state holds. -/
module

public import proofs.«01_k».proof.Proof.KernelIdeal.Loss
public import proofs.«01_k».proof.Proof.Gen.KernelIdeal.Regions

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]
variable (m : (ℓ : Loc nD τ sig) → Buf (Elt F) ℓ)

/-! ## The buffers' contents between the items -/

/-- At launch. -/
def W0 (c : Dev nD) : Valuation τ sig (Elt F) := fun b => m (c, b)
/-- After the first call. -/
def W1 (c : Dev nD) : Valuation τ sig (Elt F) := Pipeline.afterRegion (sumexpDat (W0 m) c) (W0 m c)
/-- After the second call. -/
def W2 (c : Dev nD) : Valuation τ sig (Elt F) := Pipeline.afterRegion (lossDat (W1 m) c) (W1 m c)
/-- At the end. -/
def W3 (c : Dev nD) : Valuation τ sig (Elt F) := StableHlo.after hostOps2 (W2 m c)

/-- The two calls' proof data, each over the contents its region finds. -/
def dats : (p : Fin 2) → (c : Dev nD) → Dat τ (Elt F) Unit ℕ (UR sig nD τ) ℕ (cfgs p) c
  | ⟨0, _⟩ => fun c => sumexpDat (W0 m) c
  | ⟨1, _⟩ => fun c => lossDat (W1 m) c

/-- One level, on the TensorCores alone. -/
def lev (g : GSem nD τ sig) : Finset Unit := if g.1.2 = .tc then {()} else ∅
/-- Every due is at it. -/
def lv (_ : GSem nD τ sig) (_ : Unit) : ℕ := 0

theorem lev_tc (g : GSem nD τ sig) (h : g.1.2 ≠ .tc) : lev g = ∅ := if_neg h

/-- What rides along with the buffers: the core owes nothing. -/
abbrev rest (c : Dev nD) : sProp (𝕄 F) := iprop(∃ W, owes (c : Thread nD τ) (0 : CellTallies nD τ sig Unit) W)

section

set_option backward.isDefEq.respectTransparency.types false

theorem cut (p : Fin 2) : Pipeline.LevelCut (Val := Elt F) (pcfgs (F := F)) adm () lev lv p (fun _ => 0) (fun _ => 0) where
  hι c w s := by unfold lev; rw [if_pos rfl]; exact Finset.mem_singleton_self _
  hιb c w s := Nat.le_refl 0
  hD c g i h := absurd h (Nat.lt_irrefl 0)

/-- The first call's region, from the launch contents. -/
def region0 : RegionSeg (pcfgs (F := F)) adm (dats m) () defs₀ Variants.none lev lv 0 :=
  RegionSeg.ofHeldIn (pcfgs (F := F)) adm (dats m) () defs₀ Variants.none lev lv 0 (fun _ => 0) (Pipeline.ucRefs τ sig)
    (fun _ => BI.emp) (fun _ => BI.emp) launch0.toP rfl (fun c => (sumexp_obligation (W0 m) c).loose)
    (fun _ _ => rfl) (fun _ => rfl) (fun c => (sumexpDat (W0 m) c).share_full fun _ => rfl)
    (fun c => by
      show iprop(Pipeline.scopedRest spec0 c ∗ BI.emp) ⊢ (Pipeline.scopedRest spec0 c : sProp (𝕄 F))
      iintro ⟨H, -⟩; iexact H)
    (fun c => by
      show (Pipeline.scopedRest spec0 c : sProp (𝕄 F)) ⊢ iprop(Pipeline.scopedRest spec0 c ∗ BI.emp)
      iintro H; isplitl [H]; · iexact H
      iempintro)
    (fun _ => 0) (cut 0) (fun _ => BI.emp) (W0 m) (fun _ _ => rfl)

/-- The second call's region, from what the first left. -/
def region1 : RegionSeg (pcfgs (F := F)) adm (dats m) () defs₀ Variants.none lev lv 1 :=
  RegionSeg.ofHeldIn (pcfgs (F := F)) adm (dats m) () defs₀ Variants.none lev lv 1 (fun _ => 0) (Pipeline.ucRefs τ sig)
    (fun _ => BI.emp) (fun _ => BI.emp) launch1.toP rfl (fun c => (loss_obligation (W1 m) c).loose)
    (fun _ _ => rfl) (fun _ => rfl) (fun c => (lossDat (W1 m) c).share_full fun _ => rfl)
    (fun c => by
      show iprop(Pipeline.scopedRest spec1 c ∗ BI.emp) ⊢ (Pipeline.scopedRest spec1 c : sProp (𝕄 F))
      iintro ⟨H, -⟩; iexact H)
    (fun c => by
      show (Pipeline.scopedRest spec1 c : sProp (𝕄 F)) ⊢ iprop(Pipeline.scopedRest spec1 c ∗ BI.emp)
      iintro H; isplitl [H]; · iexact H
      iempintro)
    (fun _ => 0) (cut 1) (fun _ => BI.emp) (W1 m) (fun _ _ => rfl)

theorem arrs0 : Pipeline.arrRefs (τ := τ) (pcfgs (F := F) 0).spec ⊆ Pipeline.ucRefs τ sig :=
  Pipeline.arrRefs_sub_ucRefs _ (by show ∀ w, (Pipeline.arrRef spec0 w).isScoped = false; decide)
theorem arrs1 : Pipeline.arrRefs (τ := τ) (pcfgs (F := F) 1).spec ⊆ Pipeline.ucRefs τ sig :=
  Pipeline.arrRefs_sub_ucRefs _ (by show ∀ w, (Pipeline.arrRef spec1 w).isScoped = false; decide)

theorem region0_pre (c : Dev nD) : iprop(StableHlo.held (c : Thread nD τ) (Pipeline.ucRefs τ sig) (W0 m c) ∗ rest c) ⊢ (region0 m).pre c := by
  refine .trans ?_ (RegionSeg.ofHeldIn_pre arrs0 c)
  iintro ⟨H, HO⟩
  isplitl [H]; · iexact H
  isplitl [HO]; · iexact HO
  isplitr <;> iempintro

theorem region0_post (c : Dev nD) : (region0 m).post c ⊢ iprop(StableHlo.held (c : Thread nD τ) (Pipeline.ucRefs τ sig) (W1 m c) ∗ rest c) := by
  refine .trans (RegionSeg.ofHeldIn_post arrs0 c) ?_
  iintro ⟨H, HO, -, -⟩
  isplitl [H]; · iexact H
  iexact HO

theorem region1_pre (c : Dev nD) : iprop(StableHlo.held (c : Thread nD τ) (Pipeline.ucRefs τ sig) (W1 m c) ∗ rest c) ⊢ (region1 m).pre c := by
  refine .trans ?_ (RegionSeg.ofHeldIn_pre arrs1 c)
  iintro ⟨H, HO⟩
  isplitl [H]; · iexact H
  isplitl [HO]; · iexact HO
  isplitr <;> iempintro

theorem region1_post (c : Dev nD) : (region1 m).post c ⊢ iprop(StableHlo.held (c : Thread nD τ) (Pipeline.ucRefs τ sig) (W2 m c) ∗ rest c) := by
  refine .trans (RegionSeg.ofHeldIn_post arrs1 c) ?_
  iintro ⟨H, HO, -, -⟩
  isplitl [H]; · iexact H
  iexact HO

/-- The host operations after the calls. -/
def hostSeg : HostSeg (Ix := Unit) (Name := ℕ) (U := UR sig nD τ) (Lvl := ℕ) (pcfgs (F := F)) defs₀ Variants.none lev lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) (fun c => rest c)

/-- The program's items in order. -/
def items (c : Dev nD) : List (Seg (pcfgs (F := F)) adm (dats m) () defs₀ Variants.none lev lv) :=
  [.region (region0 m), .region (region1 m), .host (hostSeg m)]

/-- Every weakly fair execution terminates, with every unscoped buffer at the last contents and every semaphore
    counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = W3 m c b) ∧ r.2.sem = fun _ => 0) := by
  refine Pipeline.θ_run_regions_kit_dev_sems (pcfgs (F := F)) adm (dats m) () cellOf_inj emb₁ defs₀ Variants.none lev lv m ρ main
    (items m)
    (fun c Q => by
      rewrite [main_chain c, Seg.run_eq_chain,
        show (items m c).map Seg.prog = [
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (fun _ => 0) lev_tc
    (fun _ => iprop(emp)) (initOf (Pipeline.cells cfgs cellOf_inj) (Pipeline.launchToks cfgs cellOf_inj))
    (by
      iintro Hu; imodintro
      isplitl [Hu]
      · iapply (show (ownU _ : sProp (𝕄 F)) ⊢ BI.own (emb₁ (initOf (Pipeline.cells cfgs cellOf_inj) (Pipeline.launchToks cfgs cellOf_inj))) from .rfl)
        iexact Hu
      iapply (show (BI.emp : sProp (𝕄 F)) ⊢ bigSep Finset.univ (fun _ : Dev nD => (BI.emp : sProp (𝕄 F))) from by rw [BI.bigSep_emp_const])
      iempintro)
    (T₀ := fun c => iprop(StableHlo.held (c : Thread nD τ) (Pipeline.ucRefs τ sig) (W0 m c) ∗ rest c))
    (Tₙ := fun c => StableHlo.held (c : Thread nD τ) (Pipeline.ucRefs τ sig) (W3 m c))
    (hch := fun c => ⟨region0_pre m c, (region0_post m c).trans (region1_pre m c), region1_post m c, .rfl⟩)
    (hinit := ?_) (QY := fun c s => ∀ b ∈ Pipeline.ucRefs τ sig, s.mem ((c : Thread nD τ).1, b) = W3 m c b)
    (hfin := fun c s' => ?_) (hQ := fun _ h hz => ⟨h, funext fun g => hz g (.inr (regions_no_unscoped g.2))⟩)
  · refine .trans ?_ (fupd_intro)
    refine .trans (show _ ⊢ (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)) : sProp (𝕄 F)) from by
      iintro ⟨H, -⟩; iexact H) ?_
    refine bigSep_mono fun c _ => ?_
    rw [← Pipeline.unscopedBufs_held (Ix := Unit) (Name := ℕ) (U := UR sig nD τ) (Lvl := ℕ) c (W0 m c)]
    show iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp))
      ⊢ (iprop(unscopedBufs c (fun b => m ((c.tc : Thread nD τ).loc b)) ∗ rest c) : sProp (𝕄 F))
    iintro ⟨H, -, HO, -⟩
    isplitl [H]; · iexact H
    iexists _; iexact HO
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro; exact h
    · iexact HSI

end

/-! ## The arguments -/

/-- A buffer no call and no host operation writes ends as launched. -/
theorem W3_kept (c : Dev nD) (r : Ref sig .tc) (h0 : ∀ w, Pipeline.arrRef spec0 w = r → (cfg0.win w).isOut = false)
    (h1 : ∀ w, Pipeline.arrRef spec1 w = r → (cfg1.win w).isOut = false) (h2 : r ∉ hostOps2_W) :
    W3 m c (Proc.devRef .tc r) = m ((c : Thread nD τ).loc r) :=
  (StableHlo.after_of_writes_sub hostOps2 _ hostOps2_writes h2).trans
    ((Pipeline.afterRegion_keeps (lossDat (W1 m) c) (W1 m c) launch1.win.arr_inj (fun _ => rfl) r h1).trans
      (Pipeline.afterRegion_keeps (sumexpDat (W0 m) c) (W0 m c) launch0.win.arr_inj (fun _ => rfl) r h0))

/-- Every weakly fair execution terminates with every argument as launched, the two results at the last contents and
    every semaphore counter at zero. -/
theorem run_results (ρ : Dev nD → PrngReg) :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
      ∧ ∀ c : Dev nD, r.2.mem ((c.tc : Thread nD τ).loc main_v3) = W3 m c (Proc.devRef .tc main_v3)
        ∧ r.2.mem ((c.tc : Thread nD τ).loc main_v5) = W3 m c (Proc.devRef .tc main_v5)) :=
  (θ_run defs _ _).mono (fun r h => by
    have rd : ∀ (c : Dev nD) (b : Ref sig .tc), b.isScoped = false → r.2.mem ((c.tc : Thread nD τ).loc b) = W3 m c (Proc.devRef .tc b) :=
      fun c b hb => h.1 c _ (Finset.mem_filter.mpr ⟨StableHlo.devRef_mem_tcRefs b, fun h' => Bool.false_ne_true (hb.symm.trans h')⟩)
    refine ⟨⟨fun c => ⟨?_, ?_, ?_, ?_, ?_, ?_, ?_⟩, h.2⟩, fun c => ⟨rd c main_v3 rfl, rd c main_v5 rfl⟩⟩
    · exact (rd c main_arg0 rfl).trans (W3_kept m c main_arg0 (by decide) (by decide) (by decide))
    · exact (rd c main_arg1 rfl).trans (W3_kept m c main_arg1 (by decide) (by decide) (by decide))
    · exact (rd c main_arg2 rfl).trans (W3_kept m c main_arg2 (by decide) (by decide) (by decide))
    · exact (rd c main_arg3 rfl).trans (W3_kept m c main_arg3 (by decide) (by decide) (by decide))
    · exact (rd c main_arg4 rfl).trans (W3_kept m c main_arg4 (by decide) (by decide) (by decide))
    · exact (rd c main_arg5 rfl).trans (W3_kept m c main_arg5 (by decide) (by decide) (by decide))
    · exact (rd c main_arg6 rfl).trans (W3_kept m c main_arg6 (by decide) (by decide) (by decide)))
  (run m ρ)

end Cert.KernelIdeal.Own

end
-- ==== Proof.Value.Numbers.lean ====
/-
  The extended reals that the two programs meet, as real numbers: the literals, finite sums, and the entries of a row
  divided by its length.
-/
module

public import Idealize.ShloMosaic.PureOps.Ideal.Laws
public import Idealize.ShloMosaic.Lib.ValueIdx

@[expose] public section

noncomputable section

namespace Cert.Value

open Idealize.ShloMosaic

/-! ## The literals -/

/-- The temperature's word, the single-precision number nearest to 0.05. -/
theorem word_temp : Ideal.ofBits .f32 0x3D4CCCCD#32 = ((13421773 / 268435456 : ℝ) : EReal) := by
  simp [Ideal.ofBits, Ideal.ieee]
  norm_num
  rw [← EReal.coe_mul]
  norm_num

/-- The number of rows. -/
theorem word_rows : Ideal.ofBits .f32 0x44800000#32 = ((1024 : ℝ) : EReal) := by
  simp [Ideal.ofBits, Ideal.ieee]
  norm_num
  rw [← EReal.coe_mul]
  norm_num

/-- One half. -/
theorem word_half : Ideal.ofBits .f32 0x3F000000#32 = ((1 / 2 : ℝ) : EReal) := by
  simp [Ideal.ofBits, Ideal.ieee]
  norm_num
  rw [← EReal.coe_mul]
  norm_num

/-- Minus one over the number of rows. -/
theorem word_neg_inv_rows : Ideal.ofBits .f32 0xBA800000#32 = ((-(1 / 1024) : ℝ) : EReal) := by
  simp [Ideal.ofBits, Ideal.ieee]
  norm_num
  rw [← EReal.coe_mul]
  norm_num

/-- The word of `+∞`. -/
theorem word_top : Ideal.ofBits .f32 0x7F800000#32 = ⊤ := by
  simp [Ideal.ofBits, Ideal.ieee]

/-- The word of `-∞`. -/
theorem word_bot : Ideal.ofBits .f32 0xFF800000#32 = ⊥ := by
  simp [Ideal.ofBits, Ideal.ieee]

/-- The least length a row is divided by is a positive real. -/
theorem word_eps : ∃ e : ℝ, 0 < e ∧ Ideal.ofBits .f32 0x2B8CBCCC#32 = (e : EReal) := by
  refine ⟨9223372 / 9223372036854775808, by norm_num, ?_⟩
  simp [Ideal.ofBits, Ideal.ieee]
  norm_num
  rw [← EReal.coe_mul]
  norm_num

/-! ## Sums -/

/-- A finite sum of reals, taken among the extended reals, is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over blocks of one width is the sum over everything in front of the last block's end. -/
theorem sum_blocks (b : ℕ) (f : ℕ → ℝ) (n : ℕ) :
    ∑ t ∈ Finset.range n, ∑ q ∈ Finset.range b, f (b * t + q) = ∑ c ∈ Finset.range (b * n), f c := by
  induction n with
  | zero => simp
  | succ n ih => rw [Finset.sum_range_succ, ih, Nat.mul_succ, Finset.sum_range_add]

/-! ## A row divided by its length -/

/-- The square of an extended real is not negative. -/
theorem mul_self_nonneg' (x : EReal) : 0 ≤ x * x := by
  induction x using EReal.rec with
  | bot => simp
  | coe r => rw [← EReal.coe_mul]; exact EReal.coe_nonneg.2 (mul_self_nonneg r)
  | top => simp

/-- An entry of a row divided by the row's length, the length taken to be at least a small positive number. -/
def unitEntry (x : Fin 128 → EReal) (k : Fin 128) : EReal :=
  Ideal.div (x k) (max (Ideal.sqrt (∑ k, x k * x k)) (Ideal.ofBits .f32 0x2B8CBCCC#32))

/-- Such an entry is a real number, whatever the row holds: an infinite entry makes the length infinite, and what is
    divided by an infinite length is zero. -/
theorem unitEntry_real (x : Fin 128 → EReal) (k : Fin 128) : ∃ r : ℝ, unitEntry x k = (r : EReal) := by
  obtain ⟨e, he, hw⟩ := word_eps
  have hS : 0 ≤ ∑ k, x k * x k := Finset.sum_nonneg fun k _ => mul_self_nonneg' (x k)
  unfold unitEntry
  rw [hw]
  by_cases htop : (∑ k, x k * x k) = ⊤
  · rw [htop, Ideal.sqrt_top, max_eq_left le_top]
    refine ⟨0, ?_⟩
    simp [Ideal.div]
  · -- every entry is finite
    have hk : x k ≠ ⊤ ∧ x k ≠ ⊥ := by
      have hle : x k * x k ≤ ∑ k, x k * x k :=
        Finset.single_le_sum (f := fun k => x k * x k) (fun k _ => mul_self_nonneg' (x k)) (Finset.mem_univ k)
      constructor <;> intro h <;> rw [h] at hle <;> simp at hle <;> exact htop hle
    obtain ⟨r, hr⟩ : ∃ r : ℝ, x k = (r : EReal) := ⟨(x k).toReal, (EReal.coe_toReal hk.1 hk.2).symm⟩
    obtain ⟨s, hs⟩ : ∃ s : ℝ, (∑ k, x k * x k) = (s : EReal) :=
      ⟨_, (EReal.coe_toReal htop (ne_bot_of_le_ne_bot (by simp) hS)).symm⟩
    have hs0 : ¬ s < 0 := by rw [hs] at hS; exact not_lt.2 (EReal.coe_nonneg.1 hS)
    rw [hr, hs, Ideal.sqrt_coe, if_neg hs0]
    have hm : max ((Real.sqrt s : ℝ) : EReal) (e : EReal) = ((max (Real.sqrt s) e : ℝ) : EReal) :=
      (Monotone.map_max EReal.coe_strictMono.monotone).symm
    rw [hm, Ideal.div_coe (lt_of_lt_of_le he (le_max_right _ _)).ne', ← EReal.coe_mul]
    exact ⟨_, rfl⟩

/-- The real number that such an entry is. -/
def unitReal (x : Fin 128 → EReal) (k : Fin 128) : ℝ := (unitEntry x k).toReal

/-- The entry is that real number. -/
theorem unitEntry_eq (x : Fin 128 → EReal) (k : Fin 128) : unitEntry x k = ((unitReal x k : ℝ) : EReal) := by
  obtain ⟨r, hr⟩ := unitEntry_real x k
  unfold unitReal
  rw [hr, EReal.toReal_coe]

end Cert.Value

end
-- ==== Proof.Value.Losses.lean ====
/-
  The two losses as functions of real numbers: the scores of a row against every feature, their softmax, and the two
  sums of targets times logarithms.
-/
module

public import proofs.«01_k».proof.Proof.Value.Numbers

@[expose] public section

noncomputable section

namespace Cert.Value

open Idealize.ShloMosaic Finset

/-- One over the temperature. -/
def invTemp : ℝ := 268435456 / 13421773

/-- A two-axis array of extended reals as real numbers, zero outside. -/
def realAt {a b : ℕ} (v : (⟨2, ![a, b]⟩ : Shape).Idx → EReal) (i j : ℕ) : ℝ :=
  if h : i < a ∧ j < b then (v (ValueIdx.ix2 ⟨i, h.1⟩ ⟨j, h.2⟩)).toReal else 0

/-- An entry that is finite is its real number. -/
theorem realAt_eq {a b : ℕ} {v : (⟨2, ![a, b]⟩ : Shape).Idx → EReal} (hv : ∀ i, v i ≠ ⊤ ∧ v i ≠ ⊥) (i : Fin a) (j : Fin b) :
    v (ValueIdx.ix2 i j) = ((realAt v i j : ℝ) : EReal) := by
  unfold realAt
  rw [dif_pos ⟨i.isLt, j.isLt⟩]
  exact (EReal.coe_toReal (hv _).1 (hv _).2).symm

/-- The rows of the inputs, each divided by its length. -/
def unitRows (x : (⟨2, ![1024, 128]⟩ : Shape).Idx → EReal) (i : Fin 1024) (k : Fin 128) : ℝ :=
  unitReal (fun k => x (ValueIdx.ix2 i k)) k

section

variable (X : Fin 1024 → Fin 128 → ℝ) (A B : ℕ → ℕ → ℝ) (T : ℕ → ℕ → ℝ)

/-- The score of row `i` against feature `j`: their product over the temperature. -/
def score (i : Fin 1024) (j : ℕ) : ℝ := (∑ k : Fin 128, X i k * A j k) * invTemp

/-- The sum of a row's exponentials. -/
def mass (i : Fin 1024) : ℝ := ∑ j ∈ range 16384, Real.exp (score X A i j)

/-- The logarithm of the softmax. -/
def logSoftmax (i : Fin 1024) (j : ℕ) : ℝ := score X A i j - Real.log (mass X A i)

/-- The mean of the two softmaxes at a cluster: features `A` have the clusters in front of 16384, features `B` those from
    8192 on. -/
def mixture (i : Fin 1024) (c : ℕ) : ℝ :=
  (if c < 16384 then Real.exp (logSoftmax X A i c) else 0) * (1 / 2)
    + (if 8192 ≤ c then Real.exp (logSoftmax X B i (c - 8192)) else 0) * (1 / 2)

/-- What column `c` adds to the first sum. -/
def firstTerm (c : ℕ) : ℝ := ∑ i : Fin 1024, T i c * logSoftmax X A i c

/-- What column `c` adds to the second sum. -/
def secondTerm (c : ℕ) : ℝ := ∑ i : Fin 1024, T i c * Real.log (mixture X A B i c)

/-- The first loss. -/
def firstLoss : ℝ := (∑ c ∈ range 16384, firstTerm X A T c) * (-(1 / 1024))

/-- The second loss. -/
def secondLoss : ℝ := (∑ c ∈ range 24576, secondTerm X A B T c) * (-(1 / 1024))

/-- A row's sum of exponentials is positive. -/
theorem mass_pos (i : Fin 1024) : 0 < mass X A i :=
  sum_pos (fun _ _ => Real.exp_pos _) ⟨0, by simp⟩

/-- The mean of the two softmaxes is positive at every cluster. -/
theorem mixture_pos (i : Fin 1024) (c : ℕ) : 0 < mixture X A B i c := by
  unfold mixture
  have h1 := Real.exp_pos (logSoftmax X A i c)
  have h2 := Real.exp_pos (logSoftmax X B i (c - 8192))
  by_cases ha : c < 16384 <;> by_cases hb : 8192 ≤ c <;> simp only [ha, hb, if_true, if_false] <;> first | positivity | omega

/-- In front of the second features' clusters the mean is half of the first softmax. -/
theorem log_mixture_first (i : Fin 1024) {c : ℕ} (h : c < 8192) :
    Real.log (mixture X A B i c) = logSoftmax X A i c + -(Real.log 2) := by
  unfold mixture
  rw [if_pos (by omega), if_neg (by omega), zero_mul, add_zero, Real.log_mul (Real.exp_pos _).ne' (by norm_num), Real.log_exp,
    one_div, Real.log_inv]

/-- Behind the first features' clusters the mean is half of the second softmax. -/
theorem log_mixture_last (i : Fin 1024) {c : ℕ} (h : 16384 ≤ c) :
    Real.log (mixture X A B i c) = logSoftmax X B i (c - 8192) + -(Real.log 2) := by
  unfold mixture
  rw [if_neg (by omega), if_pos (by omega), zero_mul, zero_add, Real.log_mul (Real.exp_pos _).ne' (by norm_num), Real.log_exp,
    one_div, Real.log_inv]

/-- Between them it is half of the sum of the two. -/
theorem log_mixture_both (i : Fin 1024) {c : ℕ} (h : 8192 ≤ c) (h' : c < 16384) :
    Real.log (mixture X A B i c)
      = Real.log (Real.exp (logSoftmax X A i c) + Real.exp (logSoftmax X B i (c - 8192))) + -(Real.log 2) := by
  unfold mixture
  rw [if_pos h', if_pos h, ← add_mul,
    Real.log_mul (add_pos (Real.exp_pos _) (Real.exp_pos _)).ne' (by norm_num), one_div, Real.log_inv]

/-- The logarithm of the softmax may be taken from scores that are lowered by any one number. -/
theorem logSoftmax_shift (M : ℝ) (i : Fin 1024) (j : ℕ) :
    score X A i j - M - Real.log (∑ j ∈ range 16384, Real.exp (score X A i j - M)) = logSoftmax X A i j := by
  have h : ∑ j ∈ range 16384, Real.exp (score X A i j - M) = mass X A i * Real.exp (-M) := by
    unfold mass
    rw [sum_mul]
    exact sum_congr rfl fun j _ => by rw [← Real.exp_add, sub_eq_add_neg]
  rw [h, Real.log_mul (mass_pos X A i).ne' (Real.exp_pos _).ne', Real.log_exp]
  unfold logSoftmax
  ring

/-- The softmax may be taken from scores that are lowered by any one number. -/
theorem softmax_shift (M : ℝ) (i : Fin 1024) (j : ℕ) :
    Real.exp (score X A i j - M) * (1 / ∑ j ∈ range 16384, Real.exp (score X A i j - M)) = Real.exp (logSoftmax X A i j) := by
  have hpos : 0 < ∑ j ∈ range 16384, Real.exp (score X A i j - M) := sum_pos (fun _ _ => Real.exp_pos _) ⟨0, by simp⟩
  rw [← logSoftmax_shift X A M i j, Real.exp_sub (score X A i j - M), Real.exp_log hpos, mul_one_div]

end

end Cert.Value

end
-- ==== Proof.Value.Pieces.lean ====
/-
  The pieces that the two kernel bodies are made of, read at an entry over the extended reals: a row's sum, a product of
  rows, the sum over a whole tile, and the normalised rows.
-/
module

public import proofs.«01_k».proof.Proof.Value.Losses
public import proofs.«01_k».proof.Proof.Gen.KernelIdeal.Skeleton
public import Idealize.ShloMosaic.Lib.Pipeline.Value

@[expose] public section

noncomputable section

namespace Cert.Value

open Idealize.ShloMosaic Idealize.ShloMosaic.ValueIdx Finset
open Cert.KernelIdeal Cert.KernelIdeal.Gen

/-- The sum of a tile's row, kept as a column: the first call's reduction of a block's exponentials. -/
def rowSums (v : FVec Ideal S1024x2048 .f32) : FVec Ideal S1024x1 .f32 :=
  shapeCast S1024x1 (multiReduction .add [1] S1024 v 0x00000000#32 reduces_S1024x2048_S1024 (.inl rfl) rfl) shapeCasts_S1024_S1024x1

/-- The reduction of a tile's rows, read at a row. -/
theorem rowSum_apply {n : ℕ} (v : FVec Ideal ⟨2, ![1024, n]⟩ .f32) (hr : Shape.Reduces ⟨2, ![1024, n]⟩ [1] S1024)
    (hf : FKind.Formats .f32) (ha : (0x00000000#32 : BitVec 32) = FKind.add.neutral .f32 hf) (hc : S1024.ShapeCasts S1024x1)
    (i : Fin 1024) (z : Fin 1) :
    shapeCast S1024x1 (multiReduction .add [1] S1024 v 0x00000000#32 hr hf ha) hc (ix2 i z) = ∑ k : Fin n, v (ix2 i k) := by
  rw [shapeCast_apply _ hc (ix2 i z) (ix1 i) (by
    rw [Shape.rowMajor_val_one, Shape.rowMajor_val_two]
    show (i : ℕ) = (i : ℕ) * 1 + (z : ℕ)
    have := z.isLt; omega)]
  refine (Ideal.multiReduction_add_single v _ hr hf ha (ix1 i)).trans (Finset.sum_congr rfl fun k _ => congrArg v ?_)
  exact Shape.idx_ext₂ rfl rfl

/-- A row of the sums. -/
theorem rowSums_apply (v : FVec Ideal S1024x2048 .f32) (i : Fin 1024) : rowSums v (ix2 i 0) = ∑ k : Fin 2048, v (ix2 i k) :=
  rowSum_apply v _ _ _ _ i 0

/-- The sum of every entry of a tile, taken out as a scalar, as the second call writes it. -/
def tileSum (v : FVec Ideal S1024x1024 .f32) : EReal :=
  extractAt ![0, 0, 0] (shapeCast S1x1x1 (multiReduction .add [1, 2] S1
    (shapeCast S1x1024x1024 v shapeCasts_S1024x1024_S1x1024x1024) 0x00000000#32 reduces_S1x1024x1024_S1 (.inl rfl) rfl)
    shapeCasts_S1_S1x1x1) inpos_S1x1x1_p0_0_0

/-- It is the double sum over rows and columns. -/
theorem tileSum_eq (v : FVec Ideal S1024x1024 .f32) : tileSum v = ∑ i : Fin 1024, ∑ q : Fin 1024, v (ix2 i q) := by
  unfold tileSum extractAt
  rw [shapeCast_apply _ shapeCasts_S1_S1x1x1 _ (ix1 (0 : Fin 1)) rfl]
  refine (Ideal.multiReduction_add_total _ _ reduces_S1x1024x1024_S1 (by decide) (.inl rfl) rfl (ix1 0)).trans ?_
  rw [← sum_idx2]
  exact Equiv.sum_comp (Shape.reshapeEquiv shapeCasts_S1024x1024_S1x1024x1024) v

/-- A column spread over a tile's columns. -/
theorem column_apply {α : Type} {n : ℕ} (v : S1024x1.Idx → α) (h : S1024x1.Broadcasts ⟨2, ![1024, n]⟩) (i : Fin 1024) (j : Fin n) :
    broadcastTo ⟨2, ![1024, n]⟩ v h (ix2 i j) = v (ix2 i 0) :=
  broadcastTo_apply v h (ix2 i j) (ix2 i 0) fun a => match a with
    | ⟨0, _⟩ => rfl
    | ⟨1, _⟩ => rfl

/-- The rows of a tile divided by their lengths, as the first call computes them. -/
theorem unit_apply0 (x : Vec Ideal S1024x128 .f32) (i : Fin 1024) (k : Fin 128) :
    k0_pay1 (F := Ideal) x (ix2 i k) = ((unitRows x i k : ℝ) : EReal) := by
  unfold unitRows
  rw [← unitEntry_eq]
  unfold k0_pay1
  dsimp only
  rw [truncf_apply, divf_apply, column_apply, maximumf_apply, broadcast_apply]
  unfold unitEntry
  exact congrArg (fun s => Ideal.div (x (ix2 i k)) (max (Ideal.sqrt s) (Ideal.ofBits .f32 0x2B8CBCCC#32)))
    (rowSum_apply (mulf x x) _ _ _ _ i 0)

/-- The same rows, as the second call computes them. -/
theorem unit_apply1 (x : Vec Ideal S1024x128 .f32) (i : Fin 1024) (k : Fin 128) :
    k1_pay1 (F := Ideal) x (ix2 i k) = ((unitRows x i k : ℝ) : EReal) :=
  unit_apply0 x i k

/-- The product of the rows of a tile with 2048 features. -/
theorem dot2048_apply (x : FVec Ideal S1024x128 .bf16) (f : FVec Ideal S2048x128 .bf16) (i : Fin 1024) (j : Fin 2048) :
    matmul dot_S1024x128_S2048x128_S1024x2048_1_1_0_0_n_n none x f (constant S1024x2048 .f32 0x00000000#32) (ix2 i j)
      = ∑ k : Fin 128, x (ix2 i k) * f (ix2 j k) := by
  refine (Ideal.matmul_constant_zero_apply _ _ x f (ix2 i j)).trans ?_
  rw [← Equiv.sum_comp (contrEquiv1 dot_S1024x128_S2048x128_S1024x2048_1_1_0_0_n_n 128 rfl rfl).symm]
  refine Finset.sum_congr rfl fun k _ => ?_
  congr 2 <;> exact Shape.idx_ext₂ rfl (contrEquiv1_symm_val dot_S1024x128_S2048x128_S1024x2048_1_1_0_0_n_n 128 rfl rfl k)

/-- The product of the rows of a tile with 1024 features. -/
theorem dot1024_apply (x : FVec Ideal S1024x128 .bf16) (f : FVec Ideal S1024x128 .bf16) (i : Fin 1024) (j : Fin 1024) :
    matmul dot_S1024x128_S1024x128_S1024x1024_1_1_0_0_n_n none x f (constant S1024x1024 .f32 0x00000000#32) (ix2 i j)
      = ∑ k : Fin 128, x (ix2 i k) * f (ix2 j k) := by
  refine (Ideal.matmul_constant_zero_apply _ _ x f (ix2 i j)).trans ?_
  rw [← Equiv.sum_comp (contrEquiv1 dot_S1024x128_S1024x128_S1024x1024_1_1_0_0_n_n 128 rfl rfl).symm]
  refine Finset.sum_congr rfl fun k _ => ?_
  congr 2 <;> exact Shape.idx_ext₂ rfl (contrEquiv1_symm_val dot_S1024x128_S1024x128_S1024x1024_1_1_0_0_n_n 128 rfl rfl k)

/-- The named constant over the temperature. -/
theorem invTemp_named : Named.named (F := Ideal) (φ := .f32) κ "inv_temp" 0x41A00000#32 = ((invTemp : ℝ) : EReal) := by
  rfl

/-- The named logarithm of one half. -/
theorem logHalf_named : Named.named (F := Ideal) (φ := .f32) κ "log_half" 0xBF317218#32 = ((-(Real.log 2) : ℝ) : EReal) := by
  rfl

end Cert.Value

end
-- ==== Proof.Value.Blocks.lean ====
/-
  What one grid step of each call adds, over the extended reals: the exponentials of a block of features to a row's sum,
  and a block of columns to the two sums of targets times logarithms.
-/
module

public import proofs.«01_k».proof.Proof.Value.Pieces

@[expose] public section

noncomputable section

namespace Cert.Value

open Idealize.ShloMosaic Idealize.ShloMosaic.ValueIdx Finset
open Cert.KernelIdeal Cert.KernelIdeal.Gen

/-- A tile of features holds the features from number `b` on. -/
def FeatureTile {n : ℕ} (f : (⟨2, ![n, 128]⟩ : Shape).Idx → EReal) (A : ℕ → ℕ → ℝ) (b : ℕ) : Prop :=
  ∀ (j : Fin n) (k : Fin 128), f (ix2 j k) = ((A (b + j) k : ℝ) : EReal)

/-- A tile of targets holds the columns from number `o` on. -/
def TargetTile (t : Vec Ideal S1024x1024 .f32) (T : ℕ → ℕ → ℝ) (o : ℕ) : Prop :=
  ∀ i q : Fin 1024, t (ix2 i q) = ((T i (o + q) : ℝ) : EReal)

/-- A column holds a number for each row. -/
def RowColumn (z : Vec Ideal S1024x1 .f32) (r : Fin 1024 → ℝ) : Prop :=
  ∀ i : Fin 1024, z (ix2 i 0) = ((r i : ℝ) : EReal)

/-- A sum of real products over the temperature is a score. -/
theorem score_coe (X : Fin 1024 → Fin 128 → ℝ) (A : ℕ → ℕ → ℝ) (i : Fin 1024) (j : ℕ) :
    (∑ k : Fin 128, ((X i k : ℝ) : EReal) * ((A j k : ℝ) : EReal)) * ((invTemp : ℝ) : EReal) = ((score X A i j : ℝ) : EReal) := by
  rw [Finset.sum_congr rfl fun k _ => (EReal.coe_mul (X i k) (A j k)).symm, sum_coe, ← EReal.coe_mul]
  rfl

/-- The logarithm of an array, entry by entry. -/
theorem log_entry {s : Shape} (v : FVec Ideal s .f32) (i : s.Idx) : log v i = Ideal.log (v i) := rfl

/-- The exponential of an array, entry by entry. -/
theorem exp_entry {s : Shape} (v : FVec Ideal s .f32) (i : s.Idx) : exp v i = Ideal.exp (v i) := rfl

/-! ## The first call -/

section
variable {x : Vec Ideal S1024x128 .f32} {f : Vec Ideal S2048x128 .f32} {A : ℕ → ℕ → ℝ} {b : ℕ}

/-- A block of 2048 features gives a row the sum of their exponentials. -/
theorem sumexp_block (hf : FeatureTile f A b) :
    RowColumn (k0_pay2 (F := Ideal) x f) fun i => ∑ q ∈ range 2048, Real.exp (score (unitRows x) A i (b + q)) := by
  intro i
  refine (rowSums_apply _ i).trans ?_
  beta_reduce
  rw [Finset.sum_range, ← sum_coe]
  refine Finset.sum_congr rfl fun j _ => ?_
  refine (congrArg Ideal.exp (congrArg₂ (· * ·) (dot2048_apply _ _ i j) invTemp_named)).trans ?_
  beta_reduce
  rw [show (∑ k : Fin 128, k0_pay1 (F := Ideal) x (ix2 i k) * (truncf .bf16 f bitsLt_bf16_f32 : FVec Ideal S2048x128 .bf16) (ix2 j k))
      = ∑ k : Fin 128, ((unitRows x i k : ℝ) : EReal) * ((A (b + j) k : ℝ) : EReal) from
    Finset.sum_congr rfl fun k _ => by rw [unit_apply0, truncf_apply, hf j k], score_coe, Ideal.exp_coe]

/-- The first block's sum for the infrared features is the same expression. -/
theorem sumexp_block' (hf : FeatureTile f A b) :
    RowColumn (k0_pay3 (F := Ideal) x f) fun i => ∑ q ∈ range 2048, Real.exp (score (unitRows x) A i (b + q)) :=
  sumexp_block hf

/-- A later block's sum is added to what the column holds. -/
theorem sumexp_add {z : Vec Ideal S1024x1 .f32} {r : Fin 1024 → ℝ} (hf : FeatureTile f A b) (hz : RowColumn z r) :
    RowColumn (k0_pay4 (F := Ideal) x f z) fun i => r i + ∑ q ∈ range 2048, Real.exp (score (unitRows x) A i (b + q)) := by
  intro i
  show shapeCast S1024x1 z shapeCasts_S1024x1_S1024x1 (ix2 i 0) + k0_pay2 (F := Ideal) x f (ix2 i 0) = _
  rw [shapeCast_self, hz i, sumexp_block hf i, ← EReal.coe_add]

/-- The same for the infrared features. -/
theorem sumexp_add' {z : Vec Ideal S1024x1 .f32} {r : Fin 1024 → ℝ} (hf : FeatureTile f A b) (hz : RowColumn z r) :
    RowColumn (k0_pay5 (F := Ideal) x f z) fun i => r i + ∑ q ∈ range 2048, Real.exp (score (unitRows x) A i (b + q)) :=
  sumexp_add hf hz

end

/-! ## The second call -/

section
variable {x : Vec Ideal S1024x128 .f32} {t : Vec Ideal S1024x1024 .f32} {z z' : Vec Ideal S1024x1 .f32}
  {f f' : Vec Ideal S1024x128 .f32} {A B T : ℕ → ℕ → ℝ} {b o : ℕ} {y : Vec Ideal S1x1 .f32} {p : ℝ}

/-- A row's score less the logarithm of its mass is the logarithm of the softmax. -/
theorem logTile (hf : FeatureTile f A b) (hz : RowColumn z (mass (unitRows x) A)) (i q : Fin 1024) :
    k1_pay10 (F := Ideal) (k1_pay1 x) (k1_pay2 z) f (ix2 i q) = ((logSoftmax (unitRows x) A i (b + q) : ℝ) : EReal) := by
  refine (congrArg₂ (· - ·) (congrArg₂ (· * ·) (dot1024_apply _ _ i q) invTemp_named) (column_apply _ _ i q)).trans ?_
  beta_reduce
  rw [show (∑ k : Fin 128, k1_pay1 (F := Ideal) x (ix2 i k) * (truncf .bf16 f bitsLt_bf16_f32 : FVec Ideal S1024x128 .bf16) (ix2 q k))
      = ∑ k : Fin 128, ((unitRows x i k : ℝ) : EReal) * ((A (b + q) k : ℝ) : EReal) from
    Finset.sum_congr rfl fun k _ => by rw [unit_apply1, truncf_apply, hf q k], score_coe]
  rw [show k1_pay2 (F := Ideal) z (ix2 i 0) = ((Real.log (mass (unitRows x) A i) : ℝ) : EReal) from by
    show Ideal.log (shapeCast S1024x1 z shapeCasts_S1024x1_S1024x1 (ix2 i 0)) = _
    rw [shapeCast_self, hz i, Ideal.log_coe, if_neg (not_le.2 (mass_pos _ _ i))], ← EReal.coe_sub]
  rfl

/-- The sum over a tile of real numbers is a real sum, one column after another. -/
theorem tile_coe (l : Fin 1024 → ℕ → ℝ) (v : FVec Ideal S1024x1024 .f32)
    (hv : ∀ i q : Fin 1024, v (ix2 i q) = ((l i q : ℝ) : EReal)) :
    tileSum v = ((∑ q ∈ range 1024, ∑ i : Fin 1024, l i q : ℝ) : EReal) := by
  rw [tileSum_eq, Finset.sum_range fun q => ∑ i : Fin 1024, l i q, Finset.sum_comm, ← sum_coe]
  refine Finset.sum_congr rfl fun q _ => ?_
  rw [← sum_coe]
  exact Finset.sum_congr rfl fun i _ => hv i q

/-- The tile a block of columns adds to the first sum. -/
theorem first_tile (x : Vec Ideal S1024x128 .f32) (t : Vec Ideal S1024x1024 .f32) (z : Vec Ideal S1024x1 .f32)
    (f : Vec Ideal S1024x128 .f32) (j : S1x1.Idx) :
    k1_pay6 (F := Ideal) x t z f j = tileSum (mulf t (k1_pay10 (F := Ideal) (k1_pay1 x) (k1_pay2 z) f)) := by
  unfold k1_pay6 k1_pay10 tileSum
  dsimp only
  rw [broadcast_apply]

/-- The sum of a tile of targets times logarithms of softmaxes. -/
theorem log_tile_sum (ht : TargetTile t T o) (hf : FeatureTile f A b) (hz : RowColumn z (mass (unitRows x) A)) :
    tileSum (mulf t (k1_pay10 (F := Ideal) (k1_pay1 x) (k1_pay2 z) f))
      = ((∑ q ∈ range 1024, ∑ i : Fin 1024, T i (o + q) * logSoftmax (unitRows x) A i (b + q) : ℝ) : EReal) := by
  refine tile_coe (fun i q => T i (o + q) * logSoftmax (unitRows x) A i (b + q)) _ fun i q => ?_
  rw [mulf_apply, ht i q, logTile hf hz i q, ← EReal.coe_mul]

/-- What a block of columns adds to the first sum. -/
theorem first_block (ht : TargetTile t T b) (hf : FeatureTile f A b) (hz : RowColumn z (mass (unitRows x) A)) (j : S1x1.Idx) :
    k1_pay6 (F := Ideal) x t z f j = ((∑ q ∈ range 1024, firstTerm (unitRows x) A T (b + q) : ℝ) : EReal) := by
  rw [first_tile, log_tile_sum ht hf hz]
  unfold firstTerm
  rfl

/-- The first sum after one of the first eight blocks. -/
theorem first_add (ht : TargetTile t T b) (hf : FeatureTile f A b) (hz : RowColumn z (mass (unitRows x) A))
    (hy : ∀ j, y j = ((p : ℝ) : EReal)) (j : S1x1.Idx) :
    k1_pay7 (F := Ideal) x t z f y j = ((p + ∑ q ∈ range 1024, firstTerm (unitRows x) A T (b + q) : ℝ) : EReal) := by
  unfold k1_pay7
  rw [addf_apply, shapeCast_self, hy j, first_block ht hf hz j, ← EReal.coe_add]

/-- The first sum after one of the next eight blocks. -/
theorem first_add' (ht : TargetTile t T b) (hf : FeatureTile f A b) (hz : RowColumn z (mass (unitRows x) A))
    (hy : ∀ j, y j = ((p : ℝ) : EReal)) (j : S1x1.Idx) :
    k1_pay11 (F := Ideal) (k1_pay1 x) t (k1_pay2 z) f y j
      = ((p + ∑ q ∈ range 1024, firstTerm (unitRows x) A T (b + q) : ℝ) : EReal) := by
  have h := log_tile_sum ht hf hz
  unfold tileSum at h
  unfold k1_pay11
  dsimp only
  rw [addf_apply, shapeCast_self, hy j, broadcast_apply, h, ← EReal.coe_add]
  unfold firstTerm
  rfl

/-- The sum of a tile of targets. -/
theorem targets_sum (ht : TargetTile t T o) :
    tileSum t = ((∑ q ∈ range 1024, ∑ i : Fin 1024, T i (o + q) : ℝ) : EReal) :=
  tile_coe (fun i q => T i (o + q)) t ht

/-- Adding the logarithm of one half to every logarithm is adding it times the sum of the targets. -/
theorem half_sum (l : Fin 1024 → ℕ → ℝ) (u : Fin 1024 → ℕ → ℝ) (h : ℝ) :
    ∑ q ∈ range 1024, ∑ i : Fin 1024, u i q * l i q + h * ∑ q ∈ range 1024, ∑ i : Fin 1024, u i q
      = ∑ q ∈ range 1024, ∑ i : Fin 1024, u i q * (l i q + h) := by
  rw [mul_sum, ← sum_add_distrib]
  refine Finset.sum_congr rfl fun q _ => ?_
  rw [mul_sum, ← sum_add_distrib]
  exact Finset.sum_congr rfl fun i _ => by ring

/-- The second sum after a block of columns that only the first features have. -/
theorem second_add_rgb (hb : b + 1024 ≤ 8192) (ht : TargetTile t T b) (hf : FeatureTile f A b)
    (hz : RowColumn z (mass (unitRows x) A)) (hy : ∀ j, y j = ((p : ℝ) : EReal)) (j : S1x1.Idx) :
    k1_pay8 (F := Ideal) x t z f y j = ((p + ∑ q ∈ range 1024, secondTerm (unitRows x) A B T (b + q) : ℝ) : EReal) := by
  have h := targets_sum ht
  unfold tileSum at h
  unfold k1_pay8
  dsimp only
  rw [addf_apply, addf_apply, mulf_apply, broadcast_apply, broadcast_apply, h, shapeCast_self, hy j, first_tile,
    log_tile_sum ht hf hz, logHalf_named, ← EReal.coe_mul, ← EReal.coe_add, ← EReal.coe_add,
    half_sum (fun i q => logSoftmax (unitRows x) A i (b + q)) fun i q => T i (b + q)]
  unfold secondTerm
  refine congrArg (fun r : ℝ => ((p + r : ℝ) : EReal)) (Finset.sum_congr rfl fun q hq => Finset.sum_congr rfl fun i _ => ?_)
  rw [log_mixture_first _ _ _ _ (by have := Finset.mem_range.1 hq; omega)]

/-- The tiles a block of columns that only the second features have adds to the second sum. -/
theorem second_tile (x : Vec Ideal S1024x128 .f32) (t : Vec Ideal S1024x1024 .f32) (z : Vec Ideal S1024x1 .f32)
    (f : Vec Ideal S1024x128 .f32) (y : Vec Ideal S1x1 .f32) (j : S1x1.Idx) :
    k1_pay9 (F := Ideal) x t z f y j = y j + (tileSum (mulf t (k1_pay10 (F := Ideal) (k1_pay1 x) (k1_pay2 z) f))
      + Named.named (F := Ideal) (φ := .f32) κ "log_half" 0xBF317218#32 * tileSum t) := by
  unfold k1_pay9 k1_pay10 tileSum k1_pay2 k1_pay3
  dsimp only
  rw [addf_apply, addf_apply, mulf_apply, broadcast_apply, broadcast_apply, broadcast_apply, shapeCast_self]

/-- The second sum after a block of columns that only the second features have. -/
theorem second_add_ir (ho : 16384 ≤ o) (ht : TargetTile t T o) (hf : FeatureTile f B (o - 8192))
    (hz : RowColumn z (mass (unitRows x) B)) (hy : ∀ j, y j = ((p : ℝ) : EReal)) (j : S1x1.Idx) :
    k1_pay9 (F := Ideal) x t z f y j = ((p + ∑ q ∈ range 1024, secondTerm (unitRows x) A B T (o + q) : ℝ) : EReal) := by
  rw [second_tile, hy j, targets_sum ht, logHalf_named, log_tile_sum ht hf hz,
    ← EReal.coe_mul, ← EReal.coe_add, ← EReal.coe_add,
    half_sum (fun i q => logSoftmax (unitRows x) B i (o - 8192 + q)) fun i q => T i (o + q)]
  unfold secondTerm
  refine congrArg (fun r : ℝ => ((p + r : ℝ) : EReal)) (Finset.sum_congr rfl fun q hq => Finset.sum_congr rfl fun i _ => ?_)
  rw [log_mixture_last _ _ _ _ (by omega), show o + q - 8192 = o - 8192 + q by omega]

/-- The tile a block of columns that both have adds to the second sum. -/
theorem both_tile (v9 : FVec Ideal S1024x128 .bf16) (t : Vec Ideal S1024x1024 .f32) (l l' : FVec Ideal S1024x1 .f32)
    (f f' : Vec Ideal S1024x128 .f32) (y : Vec Ideal S1x1 .f32) (j : S1x1.Idx) :
    k1_pay12 (F := Ideal) v9 t l l' f f' y j = y j + tileSum (mulf t (addf (log (addf (exp (k1_pay10 (F := Ideal) v9 l f))
      (exp (k1_pay10 (F := Ideal) v9 l' f')))) (broadcast S1024x1024 (Named.named (F := Ideal) (φ := .f32) κ "log_half" 0xBF317218#32)))) := by
  unfold k1_pay12 k1_pay10 tileSum
  dsimp only
  rw [addf_apply, broadcast_apply, shapeCast_self]

/-- The second sum after a block of columns that both have. -/
theorem second_add_both (ho : 8192 ≤ o) (ho' : o + 1024 ≤ 16384) (ht : TargetTile t T o) (hf : FeatureTile f A o)
    (hf' : FeatureTile f' B (o - 8192)) (hz : RowColumn z (mass (unitRows x) A)) (hz' : RowColumn z' (mass (unitRows x) B))
    (hy : ∀ j, y j = ((p : ℝ) : EReal)) (j : S1x1.Idx) :
    k1_pay12 (F := Ideal) (k1_pay1 x) t (k1_pay2 z) (k1_pay3 z') f f' y j
      = ((p + ∑ q ∈ range 1024, secondTerm (unitRows x) A B T (o + q) : ℝ) : EReal) := by
  rw [both_tile, hy j, tile_coe (fun i q => T i (o + q) * Real.log (mixture (unitRows x) A B i (o + q))) _ ?_, ← EReal.coe_add]
  · unfold secondTerm
    rfl
  · intro i q
    have hl : k1_pay10 (F := Ideal) (k1_pay1 x) (k1_pay3 z') f' (ix2 i q)
        = ((logSoftmax (unitRows x) B i (o - 8192 + q) : ℝ) : EReal) := logTile hf' hz' i q
    rw [mulf_apply, addf_apply, log_entry, addf_apply, exp_entry, exp_entry, broadcast_apply]
    rw [ht i q, logHalf_named, logTile hf hz i q, hl, Ideal.exp_coe, Ideal.exp_coe, ← EReal.coe_add, Ideal.log_coe,
      if_neg (not_le.2 (add_pos (Real.exp_pos _) (Real.exp_pos _))), ← EReal.coe_add, ← EReal.coe_mul,
      log_mixture_both _ _ _ _ (by omega) (by omega), show o + (q : ℕ) - 8192 = o - 8192 + q by omega]

end

end Cert.Value

end
-- ==== Proof.Value.Tiles.lean ====
/-
  Where each block that a call reads sits in its array.
-/
module

public import proofs.«01_k».proof.Proof.KernelIdeal.Run
public import proofs.«01_k».proof.Proof.Value.Blocks

@[expose] public section

set_option maxRecDepth 16384

noncomputable section

namespace Cert.Value

open Idealize.ShloMosaic Idealize.ShloMosaic.ValueIdx Idealize.ShloMosaic.TcCoe Finset
open Idealize.ShloMosaic.Pipeline (Window)
open Cert.KernelIdeal Cert.KernelIdeal.Gen Cert.KernelIdeal.Own

variable (V : Dev nD → Valuation τ sig (Elt Ideal)) (c : Dev nD)

/-- A two-axis array holds the real numbers `A`. -/
def Holds {a b : ℕ} (v : (⟨2, ![a, b]⟩ : Shape).Idx → EReal) (A : ℕ → ℕ → ℝ) : Prop :=
  ∀ (i : Fin a) (j : Fin b), v (ix2 i j) = ((A i j : ℝ) : EReal)

/-! ## The block indices -/

theorem index0_0 : ∀ t : Fin cfg0.N, (cfg0.win 0).index t = ![0, 0] := by decide +kernel
theorem index0_1 : ∀ t : Fin cfg0.N, (cfg0.win 1).index t = ![t.val, 0] := by decide +kernel
theorem index0_2 : ∀ t : Fin cfg0.N, (cfg0.win 2).index t = ![t.val, 0] := by decide +kernel
theorem index0_3 : ∀ t : Fin cfg0.N, (cfg0.win 3).index t = ![0, 0] := by decide +kernel
theorem index0_4 : ∀ t : Fin cfg0.N, (cfg0.win 4).index t = ![0, 0] := by decide +kernel
theorem index1_0 : ∀ t : Fin cfg1.N, (cfg1.win 0).index t = ![0, 0] := by decide +kernel
theorem index1_1 : ∀ t : Fin cfg1.N, (cfg1.win 1).index t = ![0, t.val] := by decide +kernel
theorem index1_2 : ∀ t : Fin cfg1.N, (cfg1.win 2).index t = ![min t.val 15, 0] := by decide +kernel
theorem index1_3 : ∀ t : Fin cfg1.N, (cfg1.win 3).index t = ![t.val - 8, 0] := by decide +kernel
theorem index1_4 : ∀ t : Fin cfg1.N, (cfg1.win 4).index t = ![0, 0] := by decide +kernel
theorem index1_5 : ∀ t : Fin cfg1.N, (cfg1.win 5).index t = ![0, 0] := by decide +kernel
theorem index1_6 : ∀ t : Fin cfg1.N, (cfg1.win 6).index t = ![0, 0] := by decide +kernel
theorem index1_7 : ∀ t : Fin cfg1.N, (cfg1.win 7).index t = ![0, 0] := by decide +kernel

/-! ## The first call's blocks -/

/-- The inputs' block is the whole array. -/
theorem sumexpBlk_x (t : Fin cfg0.N) : (sumexpBlk V c 0 t : Vec Ideal S1024x128 .f32) = V c (Proc.devRef .tc main_arg0) := by
  funext i
  unfold sumexpBlk
  refine congrArg (V c (Proc.devRef .tc main_arg0)) (Shape.idx_ext₂ ?_ ?_)
  · exact (cfg0.win 0).rect_emb_val_of_index_zero t 0 (congrFun (index0_0 t) 0) i
  · exact (cfg0.win 0).rect_emb_val_of_index_zero t 1 (congrFun (index0_0 t) 1) i

/-- A block of the visible features. -/
theorem sumexpBlk_rgb (t : Fin cfg0.N) {A : ℕ → ℕ → ℝ} (hA : Holds (V c (Proc.devRef .tc main_arg3) : Vec Ideal S16384x128 .f32) A) :
    FeatureTile (sumexpBlk V c 1 t : Vec Ideal S2048x128 .f32) A (2048 * t.val) := by
  intro j k
  have hN : t.val < 8 := t.isLt
  have hj := j.isLt
  refine Eq.trans ?_ (hA ⟨2048 * t.val + j, by omega⟩ k)
  unfold sumexpBlk
  refine congrArg (V c (Proc.devRef .tc main_arg3)) (Shape.idx_ext₂ ?_ ?_)
  · refine ((cfg0.win 1).rect_emb_val t (ix2 j k) 0).trans ?_
    rw [congrFun (index0_1 t) 0]
    show (t.val) * 2048 + j.val = 2048 * t.val + j.val
    omega
  · exact (cfg0.win 1).rect_emb_val_of_index_zero t 1 (congrFun (index0_1 t) 1) (ix2 j k)

/-- A block of the infrared features. -/
theorem sumexpBlk_ir (t : Fin cfg0.N) {A : ℕ → ℕ → ℝ} (hA : Holds (V c (Proc.devRef .tc main_arg4) : Vec Ideal S16384x128 .f32) A) :
    FeatureTile (sumexpBlk V c 2 t : Vec Ideal S2048x128 .f32) A (2048 * t.val) := by
  intro j k
  have hN : t.val < 8 := t.isLt
  have hj := j.isLt
  refine Eq.trans ?_ (hA ⟨2048 * t.val + j, by omega⟩ k)
  unfold sumexpBlk
  refine congrArg (V c (Proc.devRef .tc main_arg4)) (Shape.idx_ext₂ ?_ ?_)
  · refine ((cfg0.win 2).rect_emb_val t (ix2 j k) 0).trans ?_
    rw [congrFun (index0_2 t) 0]
    show (t.val) * 2048 + j.val = 2048 * t.val + j.val
    omega
  · exact (cfg0.win 2).rect_emb_val_of_index_zero t 1 (congrFun (index0_2 t) 1) (ix2 j k)

/-! ## The second call's blocks -/

/-- The inputs' block is the whole array. -/
theorem lossBlk_x (t : Fin cfg1.N) : (lossBlk V c 0 t : Vec Ideal S1024x128 .f32) = V c (Proc.devRef .tc main_arg0) := by
  funext i
  unfold lossBlk
  refine congrArg (V c (Proc.devRef .tc main_arg0)) (Shape.idx_ext₂ ?_ ?_)
  · exact (cfg1.win 0).rect_emb_val_of_index_zero t 0 (congrFun (index1_0 t) 0) i
  · exact (cfg1.win 0).rect_emb_val_of_index_zero t 1 (congrFun (index1_0 t) 1) i

/-- So is that of the visible features' sums. -/
theorem lossBlk_z (t : Fin cfg1.N) : (lossBlk V c 4 t : Vec Ideal S1024x1 .f32) = V c (Proc.devRef .tc main_v0_0) := by
  funext i
  unfold lossBlk
  refine congrArg (V c (Proc.devRef .tc main_v0_0)) (Shape.idx_ext₂ ?_ ?_)
  · exact (cfg1.win 4).rect_emb_val_of_index_zero t 0 (congrFun (index1_4 t) 0) i
  · exact (cfg1.win 4).rect_emb_val_of_index_zero t 1 (congrFun (index1_4 t) 1) i

/-- So is that of the infrared features' sums. -/
theorem lossBlk_z' (t : Fin cfg1.N) : (lossBlk V c 5 t : Vec Ideal S1024x1 .f32) = V c (Proc.devRef .tc main_v0_1) := by
  funext i
  unfold lossBlk
  refine congrArg (V c (Proc.devRef .tc main_v0_1)) (Shape.idx_ext₂ ?_ ?_)
  · exact (cfg1.win 5).rect_emb_val_of_index_zero t 0 (congrFun (index1_5 t) 0) i
  · exact (cfg1.win 5).rect_emb_val_of_index_zero t 1 (congrFun (index1_5 t) 1) i

/-- A block of the targets' columns. -/
theorem lossBlk_targets (t : Fin cfg1.N) {T : ℕ → ℕ → ℝ} (hT : Holds (V c (Proc.devRef .tc main_arg2) : Vec Ideal S1024x24576 .f32) T) :
    TargetTile (lossBlk V c 1 t : Vec Ideal S1024x1024 .f32) T (1024 * t.val) := by
  intro i q
  have hN : t.val < 24 := t.isLt
  have hq := q.isLt
  refine Eq.trans ?_ (hT i ⟨1024 * t.val + q, by omega⟩)
  unfold lossBlk
  refine congrArg (V c (Proc.devRef .tc main_arg2)) (Shape.idx_ext₂ ?_ ?_)
  · exact (cfg1.win 1).rect_emb_val_of_index_zero t 0 (congrFun (index1_1 t) 0) (ix2 i q)
  · refine ((cfg1.win 1).rect_emb_val t (ix2 i q) 1).trans ?_
    rw [congrFun (index1_1 t) 1]
    show t.val * 1024 + q.val = 1024 * t.val + q.val
    omega

/-- A block of the visible features: the last one from point 15 on. -/
theorem lossBlk_rgb (t : Fin cfg1.N) {A : ℕ → ℕ → ℝ} (hA : Holds (V c (Proc.devRef .tc main_arg3) : Vec Ideal S16384x128 .f32) A) :
    FeatureTile (lossBlk V c 2 t : Vec Ideal S1024x128 .f32) A (1024 * min t.val 15) := by
  intro j k
  have hN : t.val < 24 := t.isLt
  have hj := j.isLt
  refine Eq.trans ?_ (hA ⟨1024 * min t.val 15 + j, by omega⟩ k)
  unfold lossBlk
  refine congrArg (V c (Proc.devRef .tc main_arg3)) (Shape.idx_ext₂ ?_ ?_)
  · refine ((cfg1.win 2).rect_emb_val t (ix2 j k) 0).trans ?_
    rw [congrFun (index1_2 t) 0]
    show (min t.val 15) * 1024 + j.val = 1024 * min t.val 15 + j.val
    omega
  · exact (cfg1.win 2).rect_emb_val_of_index_zero t 1 (congrFun (index1_2 t) 1) (ix2 j k)

/-- A block of the infrared features: the first one up to point 8. -/
theorem lossBlk_ir (t : Fin cfg1.N) {A : ℕ → ℕ → ℝ} (hA : Holds (V c (Proc.devRef .tc main_arg4) : Vec Ideal S16384x128 .f32) A) :
    FeatureTile (lossBlk V c 3 t : Vec Ideal S1024x128 .f32) A (1024 * (t.val - 8)) := by
  intro j k
  have hN : t.val < 24 := t.isLt
  have hj := j.isLt
  refine Eq.trans ?_ (hA ⟨1024 * (t.val - 8) + j, by omega⟩ k)
  unfold lossBlk
  refine congrArg (V c (Proc.devRef .tc main_arg4)) (Shape.idx_ext₂ ?_ ?_)
  · refine ((cfg1.win 3).rect_emb_val t (ix2 j k) 0).trans ?_
    rw [congrFun (index1_3 t) 0]
    show (t.val - 8) * 1024 + j.val = 1024 * (t.val - 8) + j.val
    omega
  · exact (cfg1.win 3).rect_emb_val_of_index_zero t 1 (congrFun (index1_3 t) 1) (ix2 j k)

end Cert.Value

end
-- ==== Proof.Value.Folds.lean ====
/-
  What the two calls leave: the rows' sums of exponentials, the two sums of targets times logarithms, and the two losses.
-/
module

public import proofs.«01_k».proof.Proof.Value.Tiles

@[expose] public section

set_option maxRecDepth 16384

noncomputable section

namespace Cert.Value

open Idealize.ShloMosaic Idealize.ShloMosaic.ValueIdx Idealize.ShloMosaic.TcCoe Finset
open Idealize.ShloMosaic.Pipeline (Window Dat)
open Cert.KernelIdeal Cert.KernelIdeal.Gen Cert.KernelIdeal.Own

section
variable (V : Dev nD → Valuation τ sig (Elt Ideal)) (c : Dev nD) {A B T : ℕ → ℕ → ℝ}

/-- The rows of the inputs, each divided by its length. -/
def rowsOf : Fin 1024 → Fin 128 → ℝ := unitRows (V c (Proc.devRef .tc main_arg0) : Vec Ideal S1024x128 .f32)

/-! ## The first call -/

/-- After point `n` the two columns hold the sums of the exponentials of the first `2048 (n + 1)` features. -/
theorem sumexp_fold (hA : Holds (V c (Proc.devRef .tc main_arg3) : Vec Ideal S16384x128 .f32) A)
    (hB : Holds (V c (Proc.devRef .tc main_arg4) : Vec Ideal S16384x128 .f32) B) : ∀ (n : ℕ) (h : n < cfg0.N),
    RowColumn (sumexpAcc V c n h).1 (fun i => ∑ t ∈ range (n + 1), ∑ q ∈ range 2048, Real.exp (score (rowsOf V c) A i (2048 * t + q)))
      ∧ RowColumn (sumexpAcc V c n h).2 (fun i => ∑ t ∈ range (n + 1), ∑ q ∈ range 2048, Real.exp (score (rowsOf V c) B i (2048 * t + q)))
  | 0, h => by
    have h1 := sumexp_block (x := V c (Proc.devRef .tc main_arg0)) (sumexpBlk_rgb V c ⟨0, h⟩ hA)
    have h2 := sumexp_block' (x := V c (Proc.devRef .tc main_arg0)) (sumexpBlk_ir V c ⟨0, h⟩ hB)
    unfold sumexpAcc
    rw [sumexpBlk_x V c ⟨0, h⟩]
    refine ⟨fun i => (h1 i).trans ?_, fun i => (h2 i).trans ?_⟩
    · beta_reduce; rw [show range (0 + 1) = range 1 from rfl, sum_range_one]; rfl
    · beta_reduce; rw [show range (0 + 1) = range 1 from rfl, sum_range_one]; rfl
  | n + 1, h => by
    have ih := sumexp_fold hA hB n (Nat.lt_of_succ_lt h)
    have h1 := sumexp_add (x := V c (Proc.devRef .tc main_arg0)) (sumexpBlk_rgb V c ⟨n + 1, h⟩ hA) ih.1
    have h2 := sumexp_add' (x := V c (Proc.devRef .tc main_arg0)) (sumexpBlk_ir V c ⟨n + 1, h⟩ hB) ih.2
    unfold sumexpAcc
    rw [sumexpBlk_x V c ⟨n + 1, h⟩]
    refine ⟨fun i => (h1 i).trans ?_, fun i => (h2 i).trans ?_⟩
    · beta_reduce; rw [sum_range_succ _ (n + 1)]; rfl
    · beta_reduce; rw [sum_range_succ _ (n + 1)]; rfl

/-- All eight blocks together give the whole sum. -/
theorem mass_blocks (X : Fin 1024 → Fin 128 → ℝ) (i : Fin 1024) :
    ∑ t ∈ range (7 + 1), ∑ q ∈ range 2048, Real.exp (score X A i (2048 * t + q)) = mass X A i := by
  unfold mass
  exact sum_blocks 2048 (fun j => Real.exp (score X A i j)) (7 + 1)

/-- The first call's last point. -/
abbrev end0 : Fin cfg0.N := ⟨7, by decide⟩

/-- The only point at which the first call writes its columns back is the last one. -/
theorem last0 (t : Fin cfg0.N) (h : t.val % 8 = 7) : t.val = 7 := by
  have hN : t.val < 8 := t.isLt
  omega

/-- After the first call the two arrays hold the rows' sums of exponentials. -/
theorem sumexp_result (hA : Holds (V c (Proc.devRef .tc main_arg3) : Vec Ideal S16384x128 .f32) A)
    (hB : Holds (V c (Proc.devRef .tc main_arg4) : Vec Ideal S16384x128 .f32) B) :
    RowColumn (Pipeline.afterRegion (sumexpDat V c) (V c) (Proc.devRef .tc main_v0_0)) (mass (rowsOf V c) A)
      ∧ RowColumn (Pipeline.afterRegion (sumexpDat V c) (V c) (Proc.devRef .tc main_v0_1)) (mass (rowsOf V c) B) := by
  have hf := sumexp_fold V c hA hB 7 (by decide)
  constructor
  · intro i
    refine (congrFun (Pipeline.afterRegion_arr (sumexpDat V c) (V c) launch0.win.arr_inj 3) (ix2 i 0)).trans ?_
    have h := (sumexpDat V c).arrAt_emb_eq_flushed 3 (fun t t' h h' hne => absurd (Fin.ext
      ((last0 t ((flush0_3 t).1 h)).trans (last0 t' ((flush0_3 t').1 h')).symm)) hne) end0 ((flush0_3 _).2 rfl) (ix2 i 0)
    have e : @Eq S1024x1.Idx (((cfg0.win 3).blk end0).view.emb (ix2 i 0)) (ix2 i 0) := Shape.idx_ext₂
      ((cfg0.win 3).rect_emb_val_of_index_zero end0 0 (congrFun (index0_3 end0) 0) (ix2 i 0))
      ((cfg0.win 3).rect_emb_val_of_index_zero end0 1 (congrFun (index0_3 end0) 1) (ix2 i 0))
    refine (congrArg ((sumexpDat V c).arrAt 3 cfg0.N) e).symm.trans (h.trans ?_)
    refine (congrFun (sumexp_after3 V c end0) (ix2 i 0)).trans ((hf.1 i).trans ?_)
    beta_reduce
    rw [mass_blocks]
  · intro i
    refine (congrFun (Pipeline.afterRegion_arr (sumexpDat V c) (V c) launch0.win.arr_inj 4) (ix2 i 0)).trans ?_
    have h := (sumexpDat V c).arrAt_emb_eq_flushed 4 (fun t t' h h' hne => absurd (Fin.ext
      ((last0 t ((flush0_4 t).1 h)).trans (last0 t' ((flush0_4 t').1 h')).symm)) hne) end0 ((flush0_4 _).2 rfl) (ix2 i 0)
    have e : @Eq S1024x1.Idx (((cfg0.win 4).blk end0).view.emb (ix2 i 0)) (ix2 i 0) := Shape.idx_ext₂
      ((cfg0.win 4).rect_emb_val_of_index_zero end0 0 (congrFun (index0_4 end0) 0) (ix2 i 0))
      ((cfg0.win 4).rect_emb_val_of_index_zero end0 1 (congrFun (index0_4 end0) 1) (ix2 i 0))
    refine (congrArg ((sumexpDat V c).arrAt 4 cfg0.N) e).symm.trans (h.trans ?_)
    refine (congrFun (sumexp_after4 V c end0) (ix2 i 0)).trans ((hf.2 i).trans ?_)
    beta_reduce
    rw [mass_blocks]

/-! ## The second call -/

/-- What the second call finds: the features, the targets and the rows' sums of exponentials. -/
structure Found (A B T : ℕ → ℕ → ℝ) : Prop where
  rgb : Holds (V c (Proc.devRef .tc main_arg3) : Vec Ideal S16384x128 .f32) A
  ir : Holds (V c (Proc.devRef .tc main_arg4) : Vec Ideal S16384x128 .f32) B
  targets : Holds (V c (Proc.devRef .tc main_arg2) : Vec Ideal S1024x24576 .f32) T
  zRgb : RowColumn (V c (Proc.devRef .tc main_v0_0)) (mass (rowsOf V c) A)
  zIr : RowColumn (V c (Proc.devRef .tc main_v0_1)) (mass (rowsOf V c) B)

/-- What the block of columns of point `t` adds to the first sum. -/
def firstBlock (A T : ℕ → ℕ → ℝ) (t : ℕ) : ℝ := ∑ q ∈ range 1024, firstTerm (rowsOf V c) A T (1024 * t + q)

/-- What it adds to the second sum. -/
def secondBlock (A B T : ℕ → ℕ → ℝ) (t : ℕ) : ℝ := ∑ q ∈ range 1024, secondTerm (rowsOf V c) A B T (1024 * t + q)

/-- One point adds its block to both sums; the first sum stays as it is from point 16 on. -/
theorem loss_step (H : Found V c A B T) (t : Fin cfg1.N) (y : Vec Ideal S1x1 .f32 × Vec Ideal S1x1 .f32) (p p' : ℝ)
    (hy : ∀ j, y.1 j = ((p : ℝ) : EReal)) (hy' : ∀ j, y.2 j = ((p' : ℝ) : EReal)) :
    (∀ j, (lossStep V c t y).1 j = ((p + (if t.val < 16 then firstBlock V c A T t.val else 0) : ℝ) : EReal))
      ∧ ∀ j, (lossStep V c t y).2 j = ((p' + secondBlock V c A B T t.val : ℝ) : EReal) := by
  have ht := lossBlk_targets V c t H.targets
  have hr := lossBlk_rgb V c t H.rgb
  have hi := lossBlk_ir V c t H.ir
  have hN : t.val < 24 := t.isLt
  unfold lossStep
  rw [lossBlk_x V c t, lossBlk_z V c t, lossBlk_z' V c t]
  by_cases h8 : t.val < 8
  · rw [if_pos h8, if_pos (by omega)]
    rw [show min t.val 15 = t.val by omega] at hr
    exact ⟨first_add ht hr H.zRgb hy, second_add_rgb (by omega) ht hr H.zRgb hy'⟩
  · by_cases h16 : t.val < 16
    · rw [if_neg h8, if_pos h16, if_pos h16]
      rw [show min t.val 15 = t.val by omega] at hr
      rw [show 1024 * (t.val - 8) = 1024 * t.val - 8192 by omega] at hi
      exact ⟨first_add' ht hr H.zRgb hy, second_add_both (by omega) (by omega) ht hr hi H.zRgb H.zIr hy'⟩
    · rw [if_neg h8, if_neg h16, if_neg h16, add_zero]
      rw [show 1024 * (t.val - 8) = 1024 * t.val - 8192 by omega] at hi
      exact ⟨hy, second_add_ir (by omega) ht hi H.zIr hy'⟩

/-- After point `n` the two sums are those of the blocks up to it, the first of the first sixteen only. -/
theorem loss_fold (H : Found V c A B T) : ∀ (n : ℕ) (h : n < cfg1.N),
    (∀ j, (lossAcc V c n h).1 j = ((∑ t ∈ range (n + 1), (if t < 16 then firstBlock V c A T t else 0) : ℝ) : EReal))
      ∧ ∀ j, (lossAcc V c n h).2 j = ((∑ t ∈ range (n + 1), secondBlock V c A B T t : ℝ) : EReal)
  | 0, h => by
    have s := loss_step V c H ⟨0, h⟩ (k1_pay4 (F := Ideal), k1_pay5 (F := Ideal)) 0 0
      (fun _ => Ideal.ofBits_zero_f32) (fun _ => Ideal.ofBits_zero_f32)
    unfold lossAcc
    rw [zero_add, zero_add] at s
    rw [show range (0 + 1) = range 1 from rfl, sum_range_one, sum_range_one]
    exact s
  | n + 1, h => by
    have ih := loss_fold H n (Nat.lt_of_succ_lt h)
    have s := loss_step V c H ⟨n + 1, h⟩ _ _ _ ih.1 ih.2
    unfold lossAcc
    rw [sum_range_succ _ (n + 1), sum_range_succ _ (n + 1)]
    exact s

/-- The sixteen blocks in front give the first loss's sum. -/
theorem first_total (A T : ℕ → ℕ → ℝ) :
    ∑ t ∈ range (23 + 1), (if t < 16 then firstBlock V c A T t else 0) = ∑ j ∈ range 16384, firstTerm (rowsOf V c) A T j := by
  rw [show 23 + 1 = 16 + 8 from rfl, sum_range_add, sum_congr rfl fun t ht => if_pos (mem_range.1 ht),
    sum_congr (g := fun _ => (0 : ℝ)) (s₁ := range 8) rfl fun t _ => if_neg (by omega), sum_const_zero, add_zero]
  exact sum_blocks 1024 (fun j => firstTerm (rowsOf V c) A T j) 16

/-- All blocks give the second loss's sum. -/
theorem second_total (A B T : ℕ → ℕ → ℝ) :
    ∑ t ∈ range (23 + 1), secondBlock V c A B T t = ∑ j ∈ range 24576, secondTerm (rowsOf V c) A B T j :=
  sum_blocks 1024 (fun j => secondTerm (rowsOf V c) A B T j) 24

/-- The second call's last point. -/
abbrev end1 : Fin cfg1.N := ⟨23, by decide⟩

/-- The only point at which the second call writes its sums back is the last one. -/
theorem last1 (t : Fin cfg1.N) (h : t.val % 24 = 23) : t.val = 23 := by
  have hN : t.val < 24 := t.isLt
  omega

/-- After the second call its two arrays hold the two sums over all columns. -/
theorem loss_result (H : Found V c A B T) :
    (Pipeline.afterRegion (lossDat V c) (V c) (Proc.devRef .tc main_v1_0) : Vec Ideal S1x1 .f32) (ix2 0 0)
        = ((∑ j ∈ range 16384, firstTerm (rowsOf V c) A T j : ℝ) : EReal)
      ∧ (Pipeline.afterRegion (lossDat V c) (V c) (Proc.devRef .tc main_v1_1) : Vec Ideal S1x1 .f32) (ix2 0 0)
        = ((∑ j ∈ range 24576, secondTerm (rowsOf V c) A B T j : ℝ) : EReal) := by
  have hf := loss_fold V c H 23 (by decide)
  constructor
  · refine (congrFun (Pipeline.afterRegion_arr (lossDat V c) (V c) launch1.win.arr_inj 6) (ix2 0 0)).trans ?_
    have h := (lossDat V c).arrAt_emb_eq_flushed 6 (fun t t' h h' hne => absurd (Fin.ext
      ((last1 t ((flush1_6 t).1 h)).trans (last1 t' ((flush1_6 t').1 h')).symm)) hne) end1 ((flush1_6 _).2 rfl) (ix2 0 0)
    have e : @Eq S1x1.Idx (((cfg1.win 6).blk end1).view.emb (ix2 0 0)) (ix2 0 0) := Shape.idx_ext₂
      ((cfg1.win 6).rect_emb_val_of_index_zero end1 0 (congrFun (index1_6 end1) 0) (ix2 0 0))
      ((cfg1.win 6).rect_emb_val_of_index_zero end1 1 (congrFun (index1_6 end1) 1) (ix2 0 0))
    refine (congrArg ((lossDat V c).arrAt 6 cfg1.N) e).symm.trans (h.trans ?_)
    rw [← first_total]
    exact (congrFun (loss_after6 V c end1) (ix2 0 0)).trans (hf.1 _)
  · refine (congrFun (Pipeline.afterRegion_arr (lossDat V c) (V c) launch1.win.arr_inj 7) (ix2 0 0)).trans ?_
    have h := (lossDat V c).arrAt_emb_eq_flushed 7 (fun t t' h h' hne => absurd (Fin.ext
      ((last1 t ((flush1_7 t).1 h)).trans (last1 t' ((flush1_7 t').1 h')).symm)) hne) end1 ((flush1_7 _).2 rfl) (ix2 0 0)
    have e : @Eq S1x1.Idx (((cfg1.win 7).blk end1).view.emb (ix2 0 0)) (ix2 0 0) := Shape.idx_ext₂
      ((cfg1.win 7).rect_emb_val_of_index_zero end1 0 (congrFun (index1_7 end1) 0) (ix2 0 0))
      ((cfg1.win 7).rect_emb_val_of_index_zero end1 1 (congrFun (index1_7 end1) 1) (ix2 0 0))
    refine (congrArg ((lossDat V c).arrAt 7 cfg1.N) e).symm.trans (h.trans ?_)
    rw [← second_total]
    exact (congrFun (loss_after7 V c end1) (ix2 0 0)).trans (hf.2 _)

end

end Cert.Value

end
-- ==== Proof.Value.KernelValue.lean ====
/-
  What the whole kernel computes: the two losses, of the arguments it was launched with.
-/
module

public import proofs.«01_k».proof.Proof.Value.Folds

@[expose] public section

set_option maxRecDepth 16384

noncomputable section

namespace Cert.Value

open Idealize.ShloMosaic Idealize.ShloMosaic.ValueIdx Idealize.ShloMosaic.TcCoe Idealize.ShloMosaic.Tactic Finset
open Cert.KernelIdeal Cert.KernelIdeal.Gen Cert.KernelIdeal.Own

variable (m : (ℓ : Loc nD τ sig) → Buf (Elt Ideal) ℓ) (c : Dev nD) {A B T : ℕ → ℕ → ℝ}

/-- The first call leaves a buffer that it does not write. -/
theorem W1_kept (r : Ref sig .tc) (h : ∀ w, Pipeline.arrRef spec0 w = r → (cfg0.win w).isOut = false) :
    W1 m c (Proc.devRef .tc r) = m ((c.tc : Thread nD τ).loc r) :=
  Pipeline.afterRegion_keeps (sumexpDat (W0 m) c) (W0 m c) launch0.win.arr_inj (fun _ => rfl) r h

/-- The second call finds the arguments as launched and the sums of exponentials that the first call left. -/
theorem found (hA : Holds (m ((c.tc : Thread nD τ).loc main_arg3) : Vec Ideal S16384x128 .f32) A)
    (hB : Holds (m ((c.tc : Thread nD τ).loc main_arg4) : Vec Ideal S16384x128 .f32) B)
    (hT : Holds (m ((c.tc : Thread nD τ).loc main_arg2) : Vec Ideal S1024x24576 .f32) T) : Found (W1 m) c A B T := by
  have hx : rowsOf (W1 m) c = rowsOf (W0 m) c := by
    unfold rowsOf
    rw [W1_kept m c main_arg0 (by decide)]
    rfl
  have hz := sumexp_result (W0 m) c hA hB
  rw [← hx] at hz
  exact ⟨by rw [W1_kept m c main_arg3 (by decide)]; exact hA, by rw [W1_kept m c main_arg4 (by decide)]; exact hB,
    by rw [W1_kept m c main_arg2 (by decide)]; exact hT, hz.1, hz.2⟩

/-- The first result, from what the second call left. -/
theorem W3_v3 : (W3 m c (Proc.devRef .tc main_v3) : FVec Ideal S_ .f32)
    = (mulf (shapeCast S_ (W2 m c (Proc.devRef .tc main_v1_0) : Vec Ideal S1x1 .f32) shapeCasts_S1x1_S_ : FVec Ideal S_ .f32)
      (constant S_ .f32 0xBA800000#32) : FVec Ideal S_ .f32) := by
  unfold W3
  after_results_simp <;> rfl

/-- The second result likewise. -/
theorem W3_v5 : (W3 m c (Proc.devRef .tc main_v5) : FVec Ideal S_ .f32)
    = (mulf (shapeCast S_ (W2 m c (Proc.devRef .tc main_v1_1) : Vec Ideal S1x1 .f32) shapeCasts_S1x1_S_ : FVec Ideal S_ .f32)
      (constant S_ .f32 0xBA800000#32) : FVec Ideal S_ .f32) := by
  unfold W3
  after_results_simp <;> rfl

/-- A sum in a 1×1 array, made a scalar and multiplied by minus one over the number of rows. -/
theorem scaled (v : Vec Ideal S1x1 .f32) (r : ℝ) (h : v (ix2 0 0) = ((r : ℝ) : EReal)) :
    (mulf (shapeCast S_ v shapeCasts_S1x1_S_) (constant S_ .f32 0xBA800000#32) : FVec Ideal S_ .f32)
      = fun _ => ((r * (-(1 / 1024)) : ℝ) : EReal) := by
  funext j
  have hk : (S1x1.rowMajor (ix2 0 0)).val = (S_.rowMajor j).val := by
    have h1 : (S1x1.rowMajor (ix2 0 0)).val < 1 := (S1x1.rowMajor (ix2 0 0)).isLt
    have h2 : (S_.rowMajor j).val < 1 := (S_.rowMajor j).isLt
    omega
  rw [mulf_apply, shapeCast_apply v shapeCasts_S1x1_S_ j (ix2 0 0) hk, h]
  refine (congrArg (fun w => ((r : ℝ) : EReal) * w) word_neg_inv_rows).trans ?_
  rw [← EReal.coe_mul]

/-- The kernel's two results are the two losses. -/
theorem kernel_losses (hA : Holds (m ((c.tc : Thread nD τ).loc main_arg3) : Vec Ideal S16384x128 .f32) A)
    (hB : Holds (m ((c.tc : Thread nD τ).loc main_arg4) : Vec Ideal S16384x128 .f32) B)
    (hT : Holds (m ((c.tc : Thread nD τ).loc main_arg2) : Vec Ideal S1024x24576 .f32) T) :
    (W3 m c (Proc.devRef .tc main_v3) : FVec Ideal S_ .f32)
        = (fun _ => ((firstLoss (unitRows (m ((c.tc : Thread nD τ).loc main_arg0) : Vec Ideal S1024x128 .f32)) A T : ℝ) : EReal))
      ∧ (W3 m c (Proc.devRef .tc main_v5) : FVec Ideal S_ .f32)
        = fun _ => ((secondLoss (unitRows (m ((c.tc : Thread nD τ).loc main_arg0) : Vec Ideal S1024x128 .f32)) A B T : ℝ) : EReal) := by
  have hx : rowsOf (W1 m) c = unitRows (m ((c.tc : Thread nD τ).loc main_arg0) : Vec Ideal S1024x128 .f32) := by
    unfold rowsOf
    rw [W1_kept m c main_arg0 (by decide)]
  have h := loss_result (W1 m) c (found m c hA hB hT)
  rw [hx] at h
  rw [W3_v3, W3_v5]
  exact ⟨scaled _ _ h.1, scaled _ _ h.2⟩

end Cert.Value

end
-- ==== Proof.Value.Moves.lean ====
/-
  The data movements of the reference, read at an index: columns taken by an index word each, columns scattered by an
  index word each, the conjunction and the maximum along an axis.
-/
module

public import proofs.«01_k».proof.Proof.Value.Losses
public import Idealize.ShloMosaic.Lib.Routing.OpsSet

@[expose] public section

noncomputable section

namespace Cert.Value

open Idealize.ShloMosaic Idealize.ShloMosaic.ValueIdx Idealize.ShloMosaic.Routing Finset

/-! ## Columns taken -/

/-- The dimension numbers that take columns of an `R × C` array, one index word for each of `N` columns of the result. -/
abbrev takeColumns (R C N : ℕ) (wf : GatherDims.WF ⟨2, ![R, C]⟩ ⟨2, ![N, 1]⟩ ⟨2, ![R, N]⟩ [0] [1] [] [1] [] 1 ![R, 1]) :
    GatherDims ⟨2, ![R, C]⟩ ⟨2, ![N, 1]⟩ ⟨2, ![R, N]⟩ where
  offsetDims := [0]
  collapsedSliceDims := [1]
  operandBatchingDims := []
  startIndicesBatchingDims := []
  startIndexMap := [1]
  indexVectorDim := 1
  sliceSizes := ![R, 1]
  wf := wf

/-- Columns taken, read at row `i` and place `n`, where the index word of that place is the column `c`. -/
theorem takeColumns_apply {α : Type} {R C N : ℕ}
    (wf : GatherDims.WF ⟨2, ![R, C]⟩ ⟨2, ![N, 1]⟩ ⟨2, ![R, N]⟩ [0] [1] [] [1] [] 1 ![R, 1])
    (x : (⟨2, ![R, C]⟩ : Shape).Idx → α) (idx : IVec ⟨2, ![N, 1]⟩ 32) (i : Fin R) (n : Fin N) (c : Fin C)
    (h : (idx (ix2 n (0 : Fin 1))).toInt = (c.val : ℤ)) :
    Host.gather (takeColumns R C N wf) x idx (ix2 i n) = x (ix2 i c) := by
  have hsi : (takeColumns R C N wf).siIdx (ix2 i n) ⟨List.idxOf (1 : Fin 2) (takeColumns R C N wf).startIndexMap,
      List.idxOf_lt_length_iff.2 (List.mem_singleton.mpr rfl)⟩ = ix2 n (0 : Fin 1) := by
    funext b
    match b with
    | ⟨0, _⟩ => rfl
    | ⟨1, _⟩ => rfl
  have hs1 : (takeColumns R C N wf).start (ix2 i n) idx 1 = c.val := by
    unfold GatherDims.start
    rw [dif_pos (show (1 : Fin 2) ∈ (takeColumns R C N wf).startIndexMap from List.mem_singleton.mpr rfl), hsi, h]
    show min (c.val : ℤ).toNat (C - 1) = c.val
    have := c.isLt
    omega
  have hs0 : (takeColumns R C N wf).start (ix2 i n) idx 0 = 0 := by
    unfold GatherDims.start
    exact dif_neg fun h => absurd (List.mem_singleton.1 h) (by decide : (0 : Fin 2) ≠ 1)
  have ho1 : (takeColumns R C N wf).offCoord (ix2 i n) 1 = 0 :=
    GatherDims.offCoord_eq_zero _ _ _ (fun h => ((GatherDims.mem_sKept _ _).mp h).1 (List.mem_singleton.mpr rfl))
  have ho0 : (takeColumns R C N wf).offCoord (ix2 i n) 0 = i.val := rfl
  have hb : ∀ a, (takeColumns R C N wf).batchCoord (ix2 i n) a = 0 := fun a =>
    GatherDims.batchCoord_eq_zero _ _ _ List.not_mem_nil
  unfold Host.gather
  congr 1
  funext a
  refine Fin.ext ?_
  match a with
  | ⟨0, _⟩ =>
    show (takeColumns R C N wf).start (ix2 i n) idx 0 + (takeColumns R C N wf).batchCoord (ix2 i n) 0
      + (takeColumns R C N wf).offCoord (ix2 i n) 0 = i.val
    rw [hs0, hb, ho0, zero_add, zero_add]
  | ⟨1, _⟩ =>
    show (takeColumns R C N wf).start (ix2 i n) idx 1 + (takeColumns R C N wf).batchCoord (ix2 i n) 1
      + (takeColumns R C N wf).offCoord (ix2 i n) 1 = c.val
    rw [hs1, hb, ho1]
    rfl

/-! ## Columns scattered -/

/-- The dimension numbers that write the `N` columns of an update into an `R × C` array, one index word for each. -/
abbrev setColumns (R C N : ℕ) (wf : ScatterDims.WF ⟨2, ![R, C]⟩ ⟨2, ![N, 1]⟩ ⟨2, ![R, N]⟩ [0] [1] [1] 1) :
    ScatterDims ⟨2, ![R, C]⟩ ⟨2, ![N, 1]⟩ ⟨2, ![R, N]⟩ where
  updateWindowDims := [0]
  insertedWindowDims := [1]
  scatterDimsToOperandDims := [1]
  indexVectorDim := 1
  wf := wf

/-- The update at row `r` and place `n` lands at row `i` and column `c` exactly where the rows agree and the place's index
    word is the column. -/
theorem setColumns_lands {R C N : ℕ} (wf : ScatterDims.WF ⟨2, ![R, C]⟩ ⟨2, ![N, 1]⟩ ⟨2, ![R, N]⟩ [0] [1] [1] 1)
    (idx : IVec ⟨2, ![N, 1]⟩ 32) (r : Fin R) (n : Fin N) (i : Fin R) (c : Fin C) :
    (setColumns R C N wf).resultIdx? (ix2 r n) idx = some (ix2 i c)
      ↔ r = i ∧ (idx (ix2 n (0 : Fin 1))).toInt = (c.val : ℤ) := by
  have hsi : (setColumns R C N wf).siIdx (ix2 r n) ⟨List.idxOf (1 : Fin 2) (setColumns R C N wf).scatterDimsToOperandDims,
      List.idxOf_lt_length_iff.2 (List.mem_singleton.mpr rfl)⟩ = ix2 n (0 : Fin 1) := by
    funext b
    match b with
    | ⟨0, _⟩ => rfl
    | ⟨1, _⟩ => rfl
  have hs1 : (setColumns R C N wf).start (ix2 r n) idx 1 = (idx (ix2 n (0 : Fin 1))).toInt := by
    unfold ScatterDims.start
    rw [dif_pos (show (1 : Fin 2) ∈ (setColumns R C N wf).scatterDimsToOperandDims from List.mem_singleton.mpr rfl), hsi]
  have hs0 : (setColumns R C N wf).start (ix2 r n) idx 0 = 0 := by
    unfold ScatterDims.start
    exact dif_neg fun h => absurd (List.mem_singleton.1 h) (by decide : (0 : Fin 2) ≠ 1)
  have hw0 : (setColumns R C N wf).window (ix2 r n) 0 = r.val := rfl
  have hw1 : (setColumns R C N wf).window (ix2 r n) 1 = 0 := rfl
  rw [resultIdx?_ix2, hs0, hs1, hw0, hw1, Fin.ext_iff]
  omega

/-- Columns scattered side by side from column `o` on, read at a column among them: the update there. -/
theorem setColumns_hit {α : Type} {R C N : ℕ} (wf : ScatterDims.WF ⟨2, ![R, C]⟩ ⟨2, ![N, 1]⟩ ⟨2, ![R, N]⟩ [0] [1] [1] 1)
    (x : (⟨2, ![R, C]⟩ : Shape).Idx → α) (idx : IVec ⟨2, ![N, 1]⟩ 32) (u : (⟨2, ![R, N]⟩ : Shape).Idx → α) (o : ℕ)
    (h : ∀ n : Fin N, (idx (ix2 n (0 : Fin 1))).toInt = ((n.val + o : ℕ) : ℤ)) (i : Fin R) (n : Fin N) (c : Fin C)
    (hc : n.val + o = c.val) :
    Host.scatter (setColumns R C N wf) (fun _ b => b) x idx u (ix2 i c) = u (ix2 i n) := by
  refine scatter_set_hit _ x idx u _ _ (fun k hk => ?_) (ix2 i n) ((setColumns_lands wf idx _ _ _ _).2 ⟨rfl, by rw [h, hc]⟩)
  rw [eq_ix2 k] at hk ⊢
  obtain ⟨hr, hn⟩ := (setColumns_lands wf idx (k 0) (k 1) i c).1 hk
  have h1 : k 1 = n := Fin.ext (by
    have := h (k 1)
    rw [hn] at this
    have : c.val = (k 1).val + o := by exact_mod_cast this
    omega)
  rw [hr, h1]
  rfl

/-- The same read at a column that is not among them: what was there before. -/
theorem setColumns_miss {α : Type} {R C N : ℕ} (wf : ScatterDims.WF ⟨2, ![R, C]⟩ ⟨2, ![N, 1]⟩ ⟨2, ![R, N]⟩ [0] [1] [1] 1)
    (x : (⟨2, ![R, C]⟩ : Shape).Idx → α) (idx : IVec ⟨2, ![N, 1]⟩ 32) (u : (⟨2, ![R, N]⟩ : Shape).Idx → α) (o : ℕ)
    (h : ∀ n : Fin N, (idx (ix2 n (0 : Fin 1))).toInt = ((n.val + o : ℕ) : ℤ)) (i : Fin R) (c : Fin C)
    (hc : c.val < o ∨ N + o ≤ c.val) :
    Host.scatter (setColumns R C N wf) (fun _ b => b) x idx u (ix2 i c) = x (ix2 i c) := by
  refine scatter_set_miss _ x idx u _ (fun k hk => ?_)
  rw [eq_ix2 k] at hk
  obtain ⟨hr, hn⟩ := (setColumns_lands wf idx (k 0) (k 1) i c).1 hk
  have h2 := h (k 1)
  rw [hn] at h2
  have h3 : c.val = (k 1).val + o := by exact_mod_cast h2
  have h4 : (k 1).val < N := (k 1).isLt
  omega

/-! ## Reductions -/

/-- The conjunction of ones is one. -/
theorem reduce_ones {s t u : Shape} {axes : List (Fin s.rank)} (x : IVec s 1) (init : IVec u 1) (h : s.ReducesTo axes t)
    (hu : 0 < u.numel) (hx : ∀ i, x i = 1#1) (hi : ∀ i, init i = 1#1) (j : t.Idx) :
    Host.reduce IntOp.andi x init h hu j = 1#1 := by
  have hfold : ∀ l : List (Fin s.numel), l.foldl (fun r n => IntOp.andi r (x (s.rowMajor.symm n))) 1#1 = 1#1 := by
    intro l
    induction l with
    | nil => rfl
    | cons n l ih =>
      rw [List.foldl_cons, hx]
      exact ih
  unfold Host.reduce
  rw [hi]
  exact hfold _

/-- The maximum along an axis of finite numbers, and of minus infinity, is a finite number. -/
theorem reduce_max_finite {s t u : Shape} {a : Fin s.rank} (x : FVec Ideal s .f32) (init : FVec Ideal u .f32) (h' : s.ReducesTo [a] t)
    (h : s.Reduces [a] t) (hu : 0 < u.numel) (hn : 0 < s.size a) (hi : ∀ i, init i = (⊥ : EReal))
    (hx : ∀ i, x i ≠ (⊤ : EReal) ∧ x i ≠ (⊥ : EReal)) (j : t.Idx) :
    ∃ r : ℝ, (Host.reduce (FloatOps.maximumf (F := Ideal) (φ := .f32)) x init h' hu j : EReal) = ((r : ℝ) : EReal) := by
  have e : (Host.reduce (FloatOps.maximumf (F := Ideal) (φ := .f32)) x init h' hu j : EReal)
      = (Finset.univ : Finset (Fin (s.size a))).fold max (⊥ : EReal) (fun k => (x (h.lift j k) : EReal)) := by
    have := Host.reduce_eq_fold_single (max : EReal → EReal → EReal) (x : s.Idx → EReal) (init : u.Idx → EReal) h' h hu j
    rw [hi] at this
    exact this
  rw [e]
  refine ⟨_, (EReal.coe_toReal (ne_of_lt ?_) (ne_of_gt ?_)).symm⟩
  · exact (Finset.fold_max_lt _).2 ⟨bot_lt_top, fun k _ => lt_top_iff_ne_top.2 (hx _).1⟩
  · exact (Finset.lt_fold_max _).2 (Or.inr ⟨⟨0, hn⟩, Finset.mem_univ _, bot_lt_iff_ne_bot.2 (hx _).2⟩)

end Cert.Value

end
-- ==== Proof.Value.RefRows.lean ====
/-
  The reference's scores, and the logarithm of their softmax, of finite features.
-/
module

public import proofs.«01_k».proof.Proof.Value.Moves
public import proofs.«01_k».proof.Proof.Value.Tiles
public import proofs.«01_k».proof.Proof.Value.Blocks
public import proofs.«01_k».proof.Proof.Gen.ReferenceIdeal.Read

@[expose] public section

noncomputable section

namespace Cert.Value

open Idealize.ShloMosaic Idealize.ShloMosaic.ValueIdx Finset
open Cert.ReferenceIdeal Cert.ReferenceIdeal.Gen Cert.ReferenceIdeal.Read

variable (x : FVec Ideal S1024x128 .f32) (f : FVec Ideal S16384x128 .f32) {A : ℕ → ℕ → ℝ}

/-- The reference's rows, each divided by its length. -/
theorem ref_rows (i : Fin 1024) (k : Fin 128) :
    (val_main_v4 (F := Ideal) x (ix2 i k) : EReal) = ((unitRows x i k : ℝ) : EReal) := by
  have e3 : idx_main_v3 (ix2 i k) = ix2 i (0 : Fin 1) := funext fun a => match a with | ⟨0, _⟩ => rfl | ⟨1, _⟩ => rfl
  have e2 : idx_main_call0_v2 (ix2 i (0 : Fin 1)) = ix1 i := funext fun a => match a with | ⟨0, _⟩ => rfl
  have e1 : ∀ k' : Fin 128, idx_main_call0_v1 (ix1 i) k' = ix2 i k' := fun k' =>
    funext fun a => match a with | ⟨0, _⟩ => rfl | ⟨1, _⟩ => rfl
  rw [val_main_v4_apply, val_main_v3_apply, e3, val_main_v2_apply, val_main_v0_apply, val_main_call0_v2_apply, e2,
    val_main_call0_v1_apply, val_main_v1_apply, val_main_cst_apply, val_main_call0_cst_apply]
  unfold unitRows
  rw [← unitEntry_eq]
  unfold unitEntry
  rw [Ideal.hostDivf_def, Ideal.maximumf_def, Ideal.hostUnary_sqrt_def, Ideal.ofBits_def, Ideal.ofBits_def,
    Ideal.ofBits_zero_f32, zero_add]
  refine congrArg (fun s => Ideal.div _ (max (Ideal.sqrt s) _)) (Finset.sum_congr rfl fun k' _ => ?_)
  rw [e1, val_main_call0_v0_apply, Ideal.mulf_def]

/-- The reference's scores against the first features. -/
theorem ref_score (hA : Holds f A) (i : Fin 1024) (j : Fin 16384) :
    (val_main_v8 (F := Ideal) x f (ix2 i j) : EReal) = ((score (unitRows x) A i j : ℝ) : EReal) := by
  have el : ∀ k : Fin 128, lidx_main_v6 (ix2 i j) k = ix2 i k := fun k =>
    funext fun a => match a with | ⟨0, _⟩ => rfl | ⟨1, _⟩ => rfl
  have er : ∀ k : Fin 128, idx_main_v5 (ridx_main_v6 (ix2 i j) k) = ix2 j k := fun k =>
    funext fun a => match a with | ⟨0, _⟩ => rfl | ⟨1, _⟩ => rfl
  rw [val_main_v8_apply, val_main_v6_apply, val_main_v7_apply, val_main_cst_0_apply, Ideal.hostDivf_def, Ideal.ofBits_def,
    word_temp, Ideal.div_coe (by norm_num), ← score_coe]
  refine congrArg₂ (· * ·) (Finset.sum_congr rfl fun k _ => ?_) (congrArg _ ?_)
  · rw [el, ref_rows, val_main_v5_apply, er, hA]
  · unfold invTemp; norm_num

/-- The reference's scores are finite. -/
theorem ref_score_finite (hA : Holds f A) (y : S1024x16384.Idx) :
    (val_main_v8 (F := Ideal) x f y : EReal) ≠ ⊤ ∧ (val_main_v8 (F := Ideal) x f y : EReal) ≠ ⊥ := by
  have h := (congrArg (val_main_v8 (F := Ideal) x f) (eq_ix2 y)).trans (ref_score x f hA (y 0) (y 1))
  rw [h]
  exact ⟨EReal.coe_ne_top _, EReal.coe_ne_bot _⟩

/-- A row's maximum, which the reference subtracts, is some number. -/
theorem ref_max (hA : Holds f A) (i : Fin 1024) :
    ∃ r : ℝ, (val_main_call2_v2 (F := Ideal) x f (ix1 i) : EReal) = ((r : ℝ) : EReal) := by
  obtain ⟨r, hr⟩ := reduce_max_finite (val_main_v8 (F := Ideal) x f) (val_main_call2_cst (F := Ideal))
    reducesTo_S1024x16384_S1024_d1 (by decide) h_S_ (by decide) (fun _ => word_bot)
    (ref_score_finite x f hA) (ix1 i)
  refine ⟨r, ?_⟩
  rw [val_main_call2_v2_apply, Ideal.maximumf_def, val_main_call2_v1_apply, val_main_call2_cst_0_apply, Ideal.ofBits_def, word_bot]
  unfold val_main_call2_v0
  rw [hr]
  exact max_eq_right bot_le

/-- The number that the reference subtracts from row `i`'s scores. -/
def refMax (i : Fin 1024) : ℝ := (val_main_call2_v2 (F := Ideal) x f (ix1 i) : EReal).toReal

/-- The reference's scores less the row's maximum. -/
theorem ref_shifted (hA : Holds f A) (i : Fin 1024) (j : Fin 16384) :
    (val_main_call2_v5 (F := Ideal) x f (ix2 i j) : EReal) = ((score (unitRows x) A i j - refMax x f i : ℝ) : EReal) := by
  have e4 : idx_main_call2_v4 (ix2 i j) = ix2 i (0 : Fin 1) := funext fun a => match a with | ⟨0, _⟩ => rfl | ⟨1, _⟩ => rfl
  have e3 : idx_main_call2_v3 (ix2 i (0 : Fin 1)) = ix1 i := funext fun a => match a with | ⟨0, _⟩ => rfl
  obtain ⟨r, hr⟩ := ref_max x f hA i
  have hm : refMax x f i = r := by
    unfold refMax
    rw [hr, EReal.toReal_coe]
  rw [val_main_call2_v5_apply, val_main_call2_v4_apply, e4, val_main_call2_v3_apply, e3, hr, ref_score x f hA, hm,
    Ideal.subf_def, ← EReal.coe_sub]

/-- The sum of the exponentials of a row's shifted scores. -/
theorem ref_mass (hA : Holds f A) (i : Fin 1024) :
    (val_main_call2_v7 (F := Ideal) x f (ix1 i) : EReal)
      = ((∑ j ∈ range 16384, Real.exp (score (unitRows x) A i j - refMax x f i) : ℝ) : EReal) := by
  have e : ∀ k : Fin 16384, idx_main_call2_v7 (ix1 i) k = ix2 i k := fun k =>
    funext fun a => match a with | ⟨0, _⟩ => rfl | ⟨1, _⟩ => rfl
  rw [val_main_call2_v7_apply, val_main_call2_cst_1_apply, Ideal.ofBits_def, Ideal.ofBits_zero_f32, zero_add,
    ← Fin.sum_univ_eq_sum_range (fun j => Real.exp (score (unitRows x) A i j - refMax x f i)), ← sum_coe]
  refine Finset.sum_congr rfl fun k _ => ?_
  rw [e, val_main_call2_v6_apply, ref_shifted x f hA, Ideal.hostUnary_exp_def, Ideal.exp_coe]

/-- That sum is positive. -/
theorem ref_mass_pos (i : Fin 1024) : 0 < ∑ j ∈ range 16384, Real.exp (score (unitRows x) A i j - refMax x f i) :=
  Finset.sum_pos (fun _ _ => Real.exp_pos _) ⟨0, Finset.mem_range.2 (by norm_num)⟩

/-- The reference's logarithm of the softmax. -/
theorem ref_logSoftmax (hA : Holds f A) (i : Fin 1024) (j : Fin 16384) :
    (val_main_v14 (F := Ideal) x f (ix2 i j) : EReal) = ((logSoftmax (unitRows x) A i j : ℝ) : EReal) := by
  have e10 : idx_main_call2_v10 (ix2 i j) = ix2 i (0 : Fin 1) := funext fun a => match a with | ⟨0, _⟩ => rfl | ⟨1, _⟩ => rfl
  have e8 : idx_main_call2_v8 (ix2 i (0 : Fin 1)) = ix1 i := funext fun a => match a with | ⟨0, _⟩ => rfl
  rw [val_main_v14_apply, ref_shifted x f hA, val_main_call2_v10_apply, e10, val_main_call2_v9_apply, val_main_call2_v8_apply, e8,
    ref_mass x f hA, Ideal.hostUnary_log_def, Ideal.log_coe, if_neg (not_le.2 (ref_mass_pos x f i)),
    Ideal.subf_def, ← EReal.coe_sub, logSoftmax_shift]

/-- The reference's softmax. -/
theorem ref_softmax (hA : Holds f A) (i : Fin 1024) (j : Fin 16384) :
    (val_main_v30 (F := Ideal) x f (ix2 i j) : EReal) = ((Real.exp (logSoftmax (unitRows x) A i j) : ℝ) : EReal) := by
  have e29 : idx_main_v29 (ix2 i j) = ix2 i (0 : Fin 1) := funext fun a => match a with | ⟨0, _⟩ => rfl | ⟨1, _⟩ => rfl
  have e28 : idx_main_v28 (ix2 i (0 : Fin 1)) = ix1 i := funext fun a => match a with | ⟨0, _⟩ => rfl
  have h26 : val_main_v26 (F := Ideal) x f = val_main_call2_v6 (F := Ideal) x f := rfl
  have h27 : val_main_v27 (F := Ideal) x f = val_main_call2_v7 (F := Ideal) x f := rfl
  rw [val_main_v30_apply, val_main_v29_apply, e29, val_main_v28_apply, e28, h26, h27, ref_mass x f hA,
    val_main_call2_v6_apply, ref_shifted x f hA, Ideal.hostUnary_exp_def, Ideal.exp_coe, Ideal.hostDivf_def,
    Ideal.div_coe (ne_of_gt (ref_mass_pos x f i)), ← EReal.coe_mul, softmax_shift]

end Cert.Value

end
-- ==== Proof.Value.RefLosses.lean ====
/-
  The reference's two results, of finite targets and features whose clusters are those from 0 on and from 8192 on.
-/
module

public import proofs.«01_k».proof.Proof.Value.RefRows

@[expose] public section

noncomputable section

namespace Cert.Value

open Idealize.ShloMosaic Idealize.ShloMosaic.ValueIdx Idealize.ShloMosaic.Routing Finset
open Cert.ReferenceIdeal Cert.ReferenceIdeal.Gen Cert.ReferenceIdeal.Read

/-- The index words of a list of clusters that runs upwards from `o`. -/
def RunsFrom (p : IVec S16384 32) (o : ℕ) : Prop := ∀ j : Fin 16384, p (ix1 j) = BitVec.ofNat 32 (j.val + o)

/-- A small number's word, read signed, is the number. -/
theorem word_toInt (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by omega), e]

variable (x : FVec Ideal S1024x128 .f32) (t : FVec Ideal S1024x24576 .f32) (f g : FVec Ideal S16384x128 .f32)
  (p q : IVec S16384 32) {A B T : ℕ → ℕ → ℝ} {o : ℕ}

/-- The reference leaves an index that is not negative as it is. -/
theorem ref_index (hp : RunsFrom p o) (ho : o ≤ 8192) (j : Fin 16384) :
    val_main_v48 (F := Ideal) p (ix2 j (0 : Fin 1)) = BitVec.ofNat 32 (j.val + o) := by
  have e : idx_main_v48 (ix2 j (0 : Fin 1)) = ix1 j := funext fun a => match a with | ⟨0, _⟩ => rfl
  have hj := j.isLt
  rw [val_main_v48_apply, e, val_main_v47_apply, val_main_v44_apply, val_main_v43_apply, val_main_c_apply, hp j]
  refine wrap_of_lt _ _ ?_
  rw [BitVec.toNat_ofNat, Nat.mod_eq_of_lt (by omega)]
  omega

/-- That index as a number. -/
theorem ref_index_toInt (hp : RunsFrom p o) (ho : o ≤ 8192) (j : Fin 16384) :
    (val_main_v48 (F := Ideal) p (ix2 j (0 : Fin 1))).toInt = ((j.val + o : ℕ) : ℤ) := by
  have hj := j.isLt
  rw [ref_index p hp ho, word_toInt _ (by omega)]

/-! ## The targets taken -/

/-- Every index is in range. -/
theorem ref_in_range (hp : RunsFrom p 0) (y : S16384x1.Idx) : val_main_call1_v11 (F := Ideal) p y = 1#1 := by
  obtain ⟨j, rfl⟩ : ∃ j : Fin 16384, y = ix2 j (0 : Fin 1) := ⟨y 0, funext fun a => match a with
    | ⟨0, _⟩ => rfl
    | ⟨1, _⟩ => Subsingleton.elim (α := Fin 1) _ _⟩
  have hj := j.isLt
  have hw : (val_main_call1_v5 (F := Ideal) p (ix2 j (0 : Fin 1))).toInt = ((j.val : ℕ) : ℤ) :=
    ref_index_toInt p hp (by omega) j
  rw [val_main_call1_v11_apply, val_main_call1_v7_apply, val_main_call1_v10_apply, val_main_call1_v6_apply, val_main_call1_v9_apply,
    val_main_call1_v8_apply, val_main_call1_c_1_apply, val_main_call1_c_2_apply]
  have h1 : IntOp.cmpi .sge (val_main_call1_v5 (F := Ideal) p (ix2 j (0 : Fin 1))) 0#32 = 1#1 := by
    show BitVec.ofBool (BitVec.sle 0#32 (val_main_call1_v5 (F := Ideal) p (ix2 j (0 : Fin 1)))) = 1#1
    rw [BitVec.sle_eq_decide, hw, decide_eq_true (by rw [BitVec.toInt_zero]; omega)]
    rfl
  have h2 : IntOp.cmpi .sle (val_main_call1_v5 (F := Ideal) p (ix2 j (0 : Fin 1))) 24575#32 = 1#1 := by
    show BitVec.ofBool (BitVec.sle (val_main_call1_v5 (F := Ideal) p (ix2 j (0 : Fin 1))) 24575#32) = 1#1
    rw [BitVec.sle_eq_decide, hw, word_toInt 24575 (by norm_num), decide_eq_true (by omega)]
    rfl
  rw [h1, h2]
  rfl

/-- The targets that the reference takes for the first features. -/
theorem ref_taken (hT : Holds t T) (hp : RunsFrom p 0) (i : Fin 1024) (j : Fin 16384) :
    (val_main_v13 (F := Ideal) t p (ix2 i j) : EReal) = ((T i j : ℝ) : EReal) := by
  have hj := j.isLt
  have hm : val_main_call1_v14 (F := Ideal) p (ix2 i j) = 1#1 := by
    rw [val_main_call1_v14_apply]
    exact reduce_ones _ _ _ _ (ref_in_range p hp) (fun _ => rfl) _
  have hg : val_main_call1_v13 (F := Ideal) t p (ix2 i j) = t (ix2 i (⟨j.val, by omega⟩ : Fin 24576)) :=
    takeColumns_apply _ t (val_main_call1_v5 (F := Ideal) p) i j ⟨j.val, by omega⟩ (ref_index_toInt p hp (by omega) j)
  rw [val_main_v13_apply, hm, hg]
  exact hT i ⟨j.val, by omega⟩

/-! ## The softmaxes scattered -/

/-- A softmax scattered into zeros, at a cluster that its features have. -/
theorem ref_scattered (hA : Holds f A) (hp : RunsFrom p o) (ho : o ≤ 8192) (i : Fin 1024) (c : Fin 24576) :
    (val_main_v49 (F := Ideal) x f p (ix2 i c) : EReal)
      = ((if o ≤ c.val ∧ c.val < 16384 + o then Real.exp (logSoftmax (unitRows x) A i (c.val - o)) else 0 : ℝ) : EReal) := by
  have hc := c.isLt
  by_cases h : o ≤ c.val ∧ c.val < 16384 + o
  · rw [if_pos h]
    have e : val_main_v49 (F := Ideal) x f p (ix2 i c)
        = val_main_v30 (F := Ideal) x f (ix2 i (⟨c.val - o, by omega⟩ : Fin 16384)) :=
      setColumns_hit _ (val_main_v42 (F := Ideal)) (val_main_v48 (F := Ideal) p) (val_main_v30 (F := Ideal) x f) o
        (ref_index_toInt p hp ho) i ⟨c.val - o, by omega⟩ c (by show c.val - o + o = c.val; omega)
    rw [e]
    exact ref_softmax x f hA i ⟨c.val - o, by omega⟩
  · rw [if_neg h]
    have e : val_main_v49 (F := Ideal) x f p (ix2 i c) = val_main_v42 (F := Ideal) (ix2 i c) :=
      setColumns_miss _ (val_main_v42 (F := Ideal)) (val_main_v48 (F := Ideal) p) (val_main_v30 (F := Ideal) x f) o
        (ref_index_toInt p hp ho) i c (by omega)
    rw [e, val_main_v42_apply, val_main_cst_11_apply, Ideal.ofBits_def, Ideal.ofBits_zero_f32, EReal.coe_zero]

/-- The mean of the two softmaxes. -/
theorem ref_mixture (hA : Holds f A) (hB : Holds g B) (hp : RunsFrom p 0) (hq : RunsFrom q 8192) (i : Fin 1024) (c : Fin 24576) :
    (val_main_v62 (F := Ideal) x f g p q (ix2 i c) : EReal) = ((mixture (unitRows x) A B i c : ℝ) : EReal) := by
  have hc := c.isLt
  have h57 : val_main_v57 (F := Ideal) x g q = val_main_v49 (F := Ideal) x g q := rfl
  rw [val_main_v62_apply, val_main_v59_apply, val_main_v61_apply, val_main_v58_apply, val_main_v60_apply, val_main_cst_16_apply,
    val_main_cst_17_apply, h57, ref_scattered x f p hA hp (by omega), ref_scattered x g q hB hq (by omega), Ideal.ofBits_def,
    word_half, Ideal.addf_def, Ideal.mulf_def, Ideal.mulf_def, ← EReal.coe_mul, ← EReal.coe_mul, ← EReal.coe_add]
  unfold mixture
  have h1 : (0 ≤ c.val ∧ c.val < 16384 + 0) = (c.val < 16384) := by simp
  have h2 : (8192 ≤ c.val ∧ c.val < 16384 + 8192) = (8192 ≤ c.val) := propext ⟨fun h => h.1, fun h => ⟨h, by omega⟩⟩
  simp only [h1, h2, Nat.sub_zero]

/-! ## The two losses -/

/-- A sum over the indices of a list is the sum over its places. -/
theorem sum_places (v : S1024.Idx → EReal) : (∑ j : S1024.Idx, v j) = ∑ i : Fin 1024, v (ix1 i) :=
  (Fintype.sum_equiv ⟨fun i : Fin 1024 => (ix1 i : S1024.Idx), fun j => j 0, fun _ => rfl, fun j => (eq_ix1 j).symm⟩ _ _
    (fun _ => rfl)).symm

/-- The mean of the rows' negated sums, with the columns' sums taken first. -/
theorem mean_columns (n : ℕ) (u : Fin 1024 → ℕ → ℝ) :
    (∑ i : Fin 1024, -∑ c ∈ range n, u i c) * (1 / 1024) = (∑ c ∈ range n, ∑ i : Fin 1024, u i c) * (-(1 / 1024)) := by
  rw [Finset.sum_neg_distrib, Finset.sum_comm]
  ring

/-- The mean as the reference takes it: the rows' sums negated, added and divided by the number of rows. -/
theorem ref_mean (v : S1024.Idx → EReal) (n : ℕ) (u : Fin 1024 → ℕ → ℝ)
    (hv : ∀ i, v (ix1 i) = ((∑ c ∈ range n, u i c : ℝ) : EReal)) :
    Ideal.div (∑ j : S1024.Idx, -v j) (Ideal.ofBits .f32 0x44800000#32)
      = (((∑ c ∈ range n, ∑ i : Fin 1024, u i c) * (-(1 / 1024)) : ℝ) : EReal) := by
  rw [sum_places, word_rows, Ideal.div_coe (by norm_num), ← mean_columns, EReal.coe_mul, ← sum_coe]
  refine congrArg (· * _) (Finset.sum_congr rfl fun i _ => ?_)
  rw [hv, EReal.coe_neg]

/-- The reference's first result is the first loss. -/
theorem ref_first (hA : Holds f A) (hT : Holds t T) (hp : RunsFrom p 0) :
    val_main_v19 (F := Ideal) x t f p = fun _ => ((firstLoss (unitRows x) A T : ℝ) : EReal) := by
  funext y
  have hrow : ∀ i : Fin 1024, (val_main_v16 (F := Ideal) x t f p (ix1 i) : EReal)
      = ((∑ c ∈ range 16384, T i c * logSoftmax (unitRows x) A i c : ℝ) : EReal) := fun i => by
    have e : ∀ k : Fin 16384, idx_main_v16 (ix1 i) k = ix2 i k := fun k =>
      funext fun a => match a with | ⟨0, _⟩ => rfl | ⟨1, _⟩ => rfl
    rw [val_main_v16_apply, val_main_cst_2_apply, Ideal.ofBits_def, Ideal.ofBits_zero_f32, zero_add,
      ← Fin.sum_univ_eq_sum_range (fun c => T i c * logSoftmax (unitRows x) A i c), ← sum_coe]
    refine Finset.sum_congr rfl fun k _ => ?_
    rw [e, val_main_v15_apply, ref_taken t p hT hp, ref_logSoftmax x f hA, Ideal.mulf_def, ← EReal.coe_mul]
  rw [val_main_v19_apply, val_main_v18_apply, val_main_cst_3_apply, val_main_cst_4_apply, Ideal.hostDivf_def, Ideal.ofBits_def,
    Ideal.ofBits_def, Ideal.ofBits_zero_f32, zero_add]
  exact ref_mean (val_main_v16 (F := Ideal) x t f p) 16384 (fun i c => T i c * logSoftmax (unitRows x) A i c) hrow

/-- The reference's second result is the second loss. -/
theorem ref_second (hA : Holds f A) (hB : Holds g B) (hT : Holds t T) (hp : RunsFrom p 0) (hq : RunsFrom q 8192) :
    val_main_v68 (F := Ideal) x t f g p q = fun _ => ((secondLoss (unitRows x) A B T : ℝ) : EReal) := by
  funext y
  have hrow : ∀ i : Fin 1024, (val_main_v65 (F := Ideal) x t f g p q (ix1 i) : EReal)
      = ((∑ c ∈ range 24576, T i c * Real.log (mixture (unitRows x) A B i c) : ℝ) : EReal) := fun i => by
    have e : ∀ k : Fin 24576, idx_main_v65 (ix1 i) k = ix2 i k := fun k =>
      funext fun a => match a with | ⟨0, _⟩ => rfl | ⟨1, _⟩ => rfl
    rw [val_main_v65_apply, val_main_cst_18_apply, Ideal.ofBits_def, Ideal.ofBits_zero_f32, zero_add,
      ← Fin.sum_univ_eq_sum_range (fun c => T i c * Real.log (mixture (unitRows x) A B i c)), ← sum_coe]
    refine Finset.sum_congr rfl fun k _ => ?_
    rw [e, val_main_v64_apply, val_main_v63_apply, ref_mixture x f g p q hA hB hp hq, hT, Ideal.hostUnary_log_def, Ideal.log_coe,
      if_neg (not_le.2 (mixture_pos _ _ _ _ _)), Ideal.mulf_def, ← EReal.coe_mul]
  rw [val_main_v68_apply, val_main_v67_apply, val_main_cst_19_apply, val_main_cst_20_apply, Ideal.hostDivf_def, Ideal.ofBits_def,
    Ideal.ofBits_def, Ideal.ofBits_zero_f32, zero_add]
  exact ref_mean (val_main_v65 (F := Ideal) x t f g p q) 24576
    (fun i c => T i c * Real.log (mixture (unitRows x) A B i c)) hrow

end Cert.Value

end
-- ==== Proof.Value.Pre.lean ====
/-
  What the precondition says: the targets and the features are finite, the feature columns of the two kinds go to the
  clusters from 0 on and from 8192 on.
-/
module

public import proofs.«01_k».proof.Defs
public import proofs.«01_k».proof.Proof.Value.Tiles

@[expose] public section

noncomputable section

namespace Cert.Value

open Idealize.ShloMosaic Idealize.ShloMosaic.ValueIdx Finset

/-- A number whose absolute value compares below infinity is finite. -/
theorem finite_of_cmp (x : EReal)
    (h : (FloatOps.cmpf (F := Ideal) (φ := .f32) .olt (max x (-x)) (Ideal.ofBits .f32 0x7F800000#32) : BitVec 1) = 1#1) :
    x ≠ ⊤ ∧ x ≠ ⊥ := by
  rw [word_top] at h
  constructor
  · rintro rfl
    revert h
    simp [Ideal.cmpf_def, Ideal.cmp]
  · rintro rfl
    revert h
    simp [Ideal.cmpf_def, Ideal.cmp]

/-- Words that compare equal are equal. -/
theorem eq_of_cmp (a b : BitVec 32) (h : IntOp.cmpi .eq a b = 1#1) : a = b := by
  by_contra hne
  have : IntOp.cmpi .eq a b = 0#1 := by
    show BitVec.ofBool (a == b) = 0#1
    rw [beq_false_of_ne hne]
    rfl
  rw [this] at h
  exact absurd h (by decide)

section

open Cert.Pre_finite_and_aligned

variable [Facts] (x0 : FVec Ideal S1024x128 .f32) (x1 : IVec S1024 32) (x2 : FVec Ideal S1024x24576 .f32)
  (x3 x4 : FVec Ideal S16384x128 .f32) (x5 x6 : IVec S16384 32)

/-- The corrected targets are finite. -/
theorem pre_targets (h : (fn x0 x1 x2 x3 x4 x5 x6).1 = fun _ => 1#1) (i : S1024x24576.Idx) :
    (x2 i : EReal) ≠ ⊤ ∧ (x2 i : EReal) ≠ ⊥ := finite_of_cmp (x2 i) (congrFun h i)

/-- The first features are finite. -/
theorem pre_first (h : (fn x0 x1 x2 x3 x4 x5 x6).2.1 = fun _ => 1#1) (i : S16384x128.Idx) :
    (x3 i : EReal) ≠ ⊤ ∧ (x3 i : EReal) ≠ ⊥ := finite_of_cmp (x3 i) (congrFun h i)

/-- The second features are finite. -/
theorem pre_second (h : (fn x0 x1 x2 x3 x4 x5 x6).2.2.1 = fun _ => 1#1) (i : S16384x128.Idx) :
    (x4 i : EReal) ≠ ⊤ ∧ (x4 i : EReal) ≠ ⊥ := finite_of_cmp (x4 i) (congrFun h i)

/-- The first features' clusters are those from 0 on. -/
theorem pre_first_clusters (h : (fn x0 x1 x2 x3 x4 x5 x6).2.2.2.1 = fun _ => 1#1) (j : Fin 16384) :
    x5 (ix1 j) = BitVec.ofNat 32 (j.val + 0) := eq_of_cmp _ _ (congrFun h (ix1 j))

/-- The second features' clusters are those from 8192 on. -/
theorem pre_second_clusters (h : (fn x0 x1 x2 x3 x4 x5 x6).2.2.2.2 = fun _ => 1#1) (j : Fin 16384) :
    x6 (ix1 j) = BitVec.ofNat 32 (j.val + 8192) := by
  have e : x6 (ix1 j) = BitVec.ofNat 32 j.val + 8192#32 := eq_of_cmp _ _ (congrFun h (ix1 j))
  rw [e, BitVec.ofNat_add]

end

end Cert.Value

end
-- ==== Proof.Value.Agree.lean ====
/-
  The kernel and the reference end with the same two losses.
-/
module

public import proofs.«01_k».proof.Proof.Value.KernelValue
public import proofs.«01_k».proof.Proof.Value.RefLosses
public import proofs.«01_k».proof.Proof.Value.Pre
public import proofs.«01_k».proof.Proof.Gen.ReferenceIdeal.Run

@[expose] public section

noncomputable section

namespace Cert.Value

open Idealize.ShloMosaic Idealize.ShloMosaic.ValueIdx Idealize.ShloMosaic.TcCoe Idealize.SL.Sem

/-- The reference's two results, of the arguments that the kernel was launched with, are what the kernel leaves. -/
theorem results_agree [Cert.Pre_finite_and_aligned.Facts]
    (m : (ℓ : Loc Cert.KernelIdeal.nD Cert.KernelIdeal.τ Cert.KernelIdeal.sig) → Buf (Elt Ideal) ℓ)
    (hpre : Cert.Pre_KernelIdeal_finite_and_aligned m) (c : Dev Cert.KernelIdeal.nD)
    (x : FVec Ideal Cert.ReferenceIdeal.S1024x128 .f32) (t : FVec Ideal Cert.ReferenceIdeal.S1024x24576 .f32)
    (f g : FVec Ideal Cert.ReferenceIdeal.S16384x128 .f32) (p q : IVec Cert.ReferenceIdeal.S16384 32)
    (hx : x = m ((c.tc : Thread Cert.KernelIdeal.nD Cert.KernelIdeal.τ).loc Cert.KernelIdeal.main_arg0))
    (ht : t = m ((c.tc : Thread Cert.KernelIdeal.nD Cert.KernelIdeal.τ).loc Cert.KernelIdeal.main_arg2))
    (hf : f = m ((c.tc : Thread Cert.KernelIdeal.nD Cert.KernelIdeal.τ).loc Cert.KernelIdeal.main_arg3))
    (hg : g = m ((c.tc : Thread Cert.KernelIdeal.nD Cert.KernelIdeal.τ).loc Cert.KernelIdeal.main_arg4))
    (hp : p = m ((c.tc : Thread Cert.KernelIdeal.nD Cert.KernelIdeal.τ).loc Cert.KernelIdeal.main_arg5))
    (hq : q = m ((c.tc : Thread Cert.KernelIdeal.nD Cert.KernelIdeal.τ).loc Cert.KernelIdeal.main_arg6)) :
    (Cert.ReferenceIdeal.Read.val_main_v19 (F := Ideal) x t f p : FVec Ideal Cert.ReferenceIdeal.S_ .f32)
        = (Cert.KernelIdeal.Own.W3 m c (Proc.devRef .tc Cert.KernelIdeal.main_v3) : FVec Ideal Cert.ReferenceIdeal.S_ .f32)
      ∧ (Cert.ReferenceIdeal.Read.val_main_v68 (F := Ideal) x t f g p q : FVec Ideal Cert.ReferenceIdeal.S_ .f32)
        = (Cert.KernelIdeal.Own.W3 m c (Proc.devRef .tc Cert.KernelIdeal.main_v5) : FVec Ideal Cert.ReferenceIdeal.S_ .f32) := by
  obtain ⟨h1, h2, h3, h4, h5⟩ := hpre c
  have hT : Holds t (realAt t) := realAt_eq (by rw [ht]; exact pre_targets _ _ _ _ _ _ _ h1)
  have hA : Holds f (realAt f) := realAt_eq (by rw [hf]; exact pre_first _ _ _ _ _ _ _ h2)
  have hB : Holds g (realAt g) := realAt_eq (by rw [hg]; exact pre_second _ _ _ _ _ _ _ h3)
  have hP : RunsFrom p 0 := by rw [hp]; exact pre_first_clusters _ _ _ _ _ _ _ h4
  have hQ : RunsFrom q 8192 := by rw [hq]; exact pre_second_clusters _ _ _ _ _ _ _ h5
  have hk := kernel_losses m c (A := realAt f) (B := realAt g) (T := realAt t) (by rw [← hf]; exact hA) (by rw [← hg]; exact hB)
    (by rw [← ht]; exact hT)
  rw [← hx] at hk
  exact ⟨(ref_first x t f p hA hT hP).trans hk.1.symm, (ref_second x t f g p q hA hB hT hP hQ).trans hk.2.symm⟩

/-- Launched with the same arguments, which the precondition admits, both programs end with the same two losses and with
    their arguments unchanged. -/
theorem losses_agree [Cert.Pre_finite_and_aligned.Facts] :
    Cert.algebraic_KernelIdeal_ReferenceIdeal_pre_finite_and_aligned := by
  intro m g m' g' hpre hargs
  refine ⟨fun c => Cert.KernelIdeal.Own.W3 m c (Proc.devRef .tc Cert.KernelIdeal.main_v3),
    fun c => Cert.KernelIdeal.Own.W3 m c (Proc.devRef .tc Cert.KernelIdeal.main_v5),
    (θ_run _ _ _).mono (fun r h c => ⟨(h.2 c).1, (h.2 c).2, h.1.1 c⟩) (Cert.KernelIdeal.Own.run_results m g),
    (θ_run _ _ _).mono (fun r h c => ?_) (Cert.ReferenceIdeal.Value.run m' g')⟩
  obtain ⟨e0, _, e2, e3, e4, e5, e6⟩ := hargs c
  have ha := results_agree m hpre c _ _ _ _ _ _ e0 e2 e3 e4 e5 e6
  exact ⟨((h c).1.trans (Cert.ReferenceIdeal.Read.val_main_v19_eq m' c)).trans ha.1,
    ((h c).2.1.trans (Cert.ReferenceIdeal.Read.val_main_v68_eq m' c)).trans ha.2, (h c).2.2⟩

end Cert.Value

end
-- ==== Proof.lean ====
module

public import proofs.«01_k».proof.Proof.Gen.ReferenceIdeal.Run
public import proofs.«01_k».proof.Proof.Gen.ReferenceIdeal.Read
public import proofs.«01_k».proof.Proof.Gen.Reference.Run
public import proofs.«01_k».proof.Proof.KernelIdeal.Run
public import proofs.«01_k».proof.Proof.Kernel.Run
public import proofs.«01_k».proof.Proof.Value.Agree
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Reference
public import proofs.«01_k».proof.Proof.Gen.Pre_finite_and_aligned
public import Idealize.ShloMosaic.Adequacy
public import Idealize.ShloMosaic.Init

@[expose] public section

noncomputable section

namespace Cert.Proof

open Idealize.ShloMosaic Idealize.SL.Sem Cert.Kernel

/-- The reference ends with every semaphore counter at zero (it has none) and its arguments unchanged. -/
theorem reference_quiescent : Cert.quiescent_Reference := fun m g _ =>
  (θ_run _ _ _).mono (fun r h => ⟨fun c => (h c).2.2, sem_eq_zero_of_no_sems rfl r.2⟩) (Cert.Reference.Value.run m g)

/-- The reference over the extended reals ends with every semaphore counter at zero and its arguments unchanged. -/
theorem referenceIdeal_quiescent : Cert.quiescent_ReferenceIdeal := fun m g _ =>
  (θ_run _ _ _).mono (fun r h => ⟨fun c => (h c).2.2, sem_eq_zero_of_no_sems rfl r.2⟩) (Cert.ReferenceIdeal.Value.run m g)

/-- The kernel terminates without fault, leaves its arguments unchanged and every counter at zero. -/
theorem kernel_quiescent : Cert.quiescent_Kernel := fun m g _ =>
  (θ_run _ _ _).mono (fun _ h => h.1) (Cert.Kernel.Own.run_results m g)

/-- The kernel over the extended reals terminates without fault, leaves its arguments unchanged and every counter at
    zero. -/
theorem kernelIdeal_quiescent : Cert.quiescent_KernelIdeal := fun m g _ =>
  (θ_run _ _ _).mono (fun _ h => h.1) (Cert.KernelIdeal.Own.run_results m g)

/-- The two named constants denote the real numbers that the table gives them. -/
theorem kernel_preserved : Cert.preserves_Kernel_KernelIdeal :=
  ⟨IdealRules.named_const.statement Cert.KernelIdeal.κ "inv_temp" .f32 0x41A00000#32 _ rfl,
    IdealRules.named_const.statement Cert.KernelIdeal.κ "log_half" .f32 0xBF317218#32 _ rfl⟩

/-- Every claim of the certificate. -/
theorem claim : Cert.Claim := ⟨Cert.Kernel.Gen.facts, Cert.KernelIdeal.Gen.facts, Cert.ReferenceIdeal.Gen.facts, Cert.Reference.Gen.facts, Cert.Pre_finite_and_aligned.Gen.facts,
  kernel_quiescent, kernelIdeal_quiescent, fun m g _ => kernelIdeal_quiescent m g trivial, referenceIdeal_quiescent,
  fun m g _ => referenceIdeal_quiescent m g trivial, reference_quiescent, kernel_preserved, trivial,
  Cert.Value.losses_agree⟩

end Cert.Proof

end
